-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ascending [hPre_ascending : Cert.Pre_ascending.Facts] (m : (ℓ : Loc Cert.KernelIdeal.nD Cert.KernelIdeal.τ Cert.KernelIdeal.sig) → Buf (Elt Ideal) ℓ) : Prop :=
  ∀ c : Dev Cert.KernelIdeal.nD,
    (Cert.Pre_ascending.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ascending [hPre_ascending : Cert.Pre_ascending.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ascending.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ascending [hKernelIdeal : Cert.KernelIdeal.Facts] [hPre_ascending : Cert.Pre_ascending.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ascending m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ascending [hReferenceIdeal : Cert.ReferenceIdeal.Facts] [hPre_ascending : Cert.Pre_ascending.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ascending m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_ascending [hKernelIdeal : Cert.KernelIdeal.Facts] [hReferenceIdeal : Cert.ReferenceIdeal.Facts] [hPre_ascending : Cert.Pre_ascending.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ascending m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ascending : Cert.Pre_ascending.Facts),
    quiescent_Kernel (hKernel := hKernel)
    ∧ quiescent_KernelIdeal (hKernelIdeal := hKernelIdeal)
    ∧ quiescent_KernelIdeal_pre_ascending (hKernelIdeal := hKernelIdeal) (hPre_ascending := hPre_ascending)
    ∧ quiescent_ReferenceIdeal (hReferenceIdeal := hReferenceIdeal)
    ∧ quiescent_ReferenceIdeal_pre_ascending (hReferenceIdeal := hReferenceIdeal) (hPre_ascending := hPre_ascending)
    ∧ preserves_Kernel_KernelIdeal
    ∧ algebraic_KernelIdeal_ReferenceIdeal_pre_ascending (hKernelIdeal := hKernelIdeal) (hReferenceIdeal := hReferenceIdeal) (hPre_ascending := hPre_ascending)
-- ==== Pre_ascending.lean ====
abbrev S8192x4096 : Shape := ⟨2, ![8192, 4096]⟩
abbrev S15 : Shape := ⟨1, ![15]⟩
abbrev S14 : Shape := ⟨1, ![14]⟩
abbrev S_ : Shape := ⟨0, ![]⟩

class Facts : Prop where
  slices_S15_S14_0 : S15.Slices ![0] S14
  slices_S15_S14_1 : S15.Slices ![1] S14
  reducesTo_S14_S_d0 : S14.ReducesTo [0] S_
  h_S_ : 0 < S_.numel

variable [Facts]

def fn {F : FTy → Type} [FloatOps F] (main_arg0 : FVec F S8192x4096 .f32) (main_arg1 : FVec F S15 .f32) : IVec S_ 1 :=
  let main_v0 : FVec F S14 .f32 := (extractStridedSlice S14 ![0] · slices_S15_S14_0) main_arg1
  let main_v1 : FVec F S14 .f32 := (extractStridedSlice S14 ![1] · slices_S15_S14_1) main_arg1
  let main_v2 : IVec S14 1 := cmpf .ole main_v0 main_v1
  let main_c : IVec S_ 1 := constantI S_ 1 1#1
  let main_v3 : IVec S_ 1 := (fun x v => Host.reduce IntOp.andi x v reducesTo_S14_S_d0 h_S_) main_v2 main_c
  main_v3
-- ==== Kernel.lean ====
abbrev S8192x4096 : Shape := ⟨2, ![8192, 4096]⟩
abbrev S15 : Shape := ⟨1, ![15]⟩
abbrev S1 : Shape := ⟨1, ![1]⟩
abbrev S16 : Shape := ⟨1, ![16]⟩
abbrev S256x4096 : Shape := ⟨2, ![256, 4096]⟩
abbrev S8x4096 : Shape := ⟨2, ![8, 4096]⟩
abbrev S_ : Shape := ⟨0, ![]⟩
abbrev S1x16 : Shape := ⟨2, ![1, 16]⟩
abbrev S1x15 : Shape := ⟨2, ![1, 15]⟩
abbrev S1x1 : Shape := ⟨2, ![1, 1]⟩

abbrev nBuf : Table → Nat
  | .hbm => 10
  | .local .tc .vmem => 4
  | .local .tc .smem => 1
  | .local .scVector .vmem => 3
  | _ => 0

abbrev bufTy : (tb : Table) → Fin (nBuf tb) → BufTy
  | .hbm, ⟨0, _⟩ => ⟨S8192x4096, .f32⟩
  | .hbm, ⟨1, _⟩ => ⟨S15, .f32⟩
  | .hbm, ⟨2, _⟩ => ⟨S1, .f32⟩
  | .hbm, ⟨3, _⟩ => ⟨S16, .f32⟩
  | .hbm, ⟨4, _⟩ => ⟨S256x4096, .f32⟩
  | .hbm, ⟨5, _⟩ => ⟨S1x15, .f32⟩
  | .hbm, ⟨6, _⟩ => ⟨S8192x4096, .f32⟩
  | .hbm, ⟨7, _⟩ => ⟨S_, .i32⟩
  | .hbm, ⟨8, _⟩ => ⟨S_, .i32⟩
  | .hbm, ⟨9, _⟩ => ⟨S8192x4096, .f32⟩
  | .local .tc .vmem, ⟨0, _⟩ => ⟨S256x4096, .f32⟩
  | .local .tc .vmem, ⟨1, _⟩ => ⟨S256x4096, .f32⟩
  | .local .tc .vmem, ⟨2, _⟩ => ⟨S256x4096, .f32⟩
  | .local .tc .vmem, ⟨3, _⟩ => ⟨S256x4096, .f32⟩
  | .local .tc .smem, ⟨0, _⟩ => ⟨S1x15, .f32⟩
  | .local .scVector .vmem, ⟨0, _⟩ => ⟨S16, .f32⟩
  | .local .scVector .vmem, ⟨1, _⟩ => ⟨S8x4096, .f32⟩
  | .local .scVector .vmem, ⟨2, _⟩ => ⟨S8x4096, .f32⟩
  | _, _ => ⟨S8192x4096, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_c_0 : Ref sig .tc := ⟨.hbm, 8, rfl⟩
abbrev main_v5 : Ref sig .tc := ⟨.hbm, 9, rfl⟩
abbrev main_arg0_scv : Ref sig .scVector := ⟨.hbm, 0, rfl⟩
abbrev main_v1_scv : Ref sig .scVector := ⟨.hbm, 3, rfl⟩
abbrev main_v2_scv : Ref sig .scVector := ⟨.hbm, 4, rfl⟩
abbrev cc1_stg1_0 : Ref sig .tc := ⟨.vmem, 0, rfl⟩
abbrev cc1_stg1_1 : Ref sig .tc := ⟨.vmem, 1, rfl⟩
abbrev cc1_stg2_0 : Ref sig .tc := ⟨.vmem, 2, rfl⟩
abbrev cc1_stg2_1 : Ref sig .tc := ⟨.vmem, 3, rfl⟩
abbrev cc1_stg0_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_chk1 (v3 : IVec S16 32) : Prop :=
  (∀ a x, ((![v3] : Fin 1 → IVec S16 32) a x).toNat < S16.size a)
theorem k0_idx1_inb : ∀ (v3 : IVec S16 32) (k0_hw1 : k0_chk1 v3), ∀ a x, ((![v3] : Fin 1 → IVec S16 32) a x).toNat < S16.size a := fun v3 k0_hw1 => k0_hw1
def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32 : BitVec 32 := 0#32
  let v5 : BitVec 32 := Scalar.addi v2 c0_i32
  let c0_i32_0 : BitVec 32 := 0#32
  ![v5.toNat, 0]
@[reducible] def k0_t1_loop : Scf.Loop 32 :=
  let c0_i32_4 : BitVec 32 := 0#32
  let c256_i32 : BitVec 32 := 256#32
  let v10 : BitVec 32 := Scalar.addi c0_i32_4 c256_i32
  let c1_i32 : BitVec 32 := 1#32
  ⟨c0_i32_4, v10, c1_i32⟩
def k0_off2 (k0_t1 : Fin k0_t1_loop.trips) : Fin 2 → Nat :=
  let c0_i32_12 : BitVec 32 := 0#32
  let v18 : Index := Scalar.indexCast c0_i32_12
  let c0_i32_11 : BitVec 32 := 0#32
  let c0_i32_4 : BitVec 32 := 0#32
  let c1_i32 : BitVec 32 := 1#32
  let arg12 : BitVec 32 := Scf.iv c0_i32_4 c1_i32 k0_t1
  let c16_i32 : BitVec 32 := 16#32
  let v16 : BitVec 32 := Scalar.muli arg12 c16_i32
  let v17 : BitVec 32 := Scalar.addi c0_i32_11 v16
  let v19 : Index := Scalar.indexCast v17
  ![0, v19.toNat]

def k0_chk2 (v26 : IVec S16 32) : Prop :=
  (∀ a x, ((![v26] : Fin 1 → IVec S16 32) a x).toNat < S16.size a)
theorem k0_idx2_inb : ∀ (v26 : IVec S16 32) (k0_hw2 : k0_chk2 v26), ∀ a x, ((![v26] : Fin 1 → IVec S16 32) a x).toNat < S16.size a := fun v26 k0_hw2 => k0_hw2

def k0_chk3 (v34 : IVec S16 32) : Prop :=
  (∀ a x, ((![v34] : Fin 1 → IVec S16 32) a x).toNat < S16.size a)
theorem k0_idx3_inb : ∀ (v34 : IVec S16 32) (k0_hw3 : k0_chk3 v34), ∀ a x, ((![v34] : Fin 1 → IVec S16 32) a x).toNat < S16.size a := fun v34 k0_hw3 => k0_hw3

def k0_chk4 (v40 : IVec S16 32) : Prop :=
  (∀ a x, ((![v40] : Fin 1 → IVec S16 32) a x).toNat < S16.size a)
theorem k0_idx4_inb : ∀ (v40 : IVec S16 32) (k0_hw4 : k0_chk4 v40), ∀ a x, ((![v40] : Fin 1 → IVec S16 32) a x).toNat < S16.size a := fun v40 k0_hw4 => k0_hw4
def k0_off3 (k0_t1 : Fin k0_t1_loop.trips) : Fin 2 → Nat :=
  let c0_i32_22 : BitVec 32 := 0#32
  let v50 : Index := Scalar.indexCast c0_i32_22
  let c0_i32_11 : BitVec 32 := 0#32
  let c0_i32_4 : BitVec 32 := 0#32
  let c1_i32 : BitVec 32 := 1#32
  let arg12 : BitVec 32 := Scf.iv c0_i32_4 c1_i32 k0_t1
  let c16_i32 : BitVec 32 := 16#32
  let v16 : BitVec 32 := Scalar.muli arg12 c16_i32
  let v17 : BitVec 32 := Scalar.addi c0_i32_11 v16
  let v51 : Index := Scalar.indexCast v17
  ![0, v51.toNat]
def k0_off4 (k0_t1 : Fin k0_t1_loop.trips) : Fin 2 → Nat :=
  let c1_i32_23 : BitVec 32 := 1#32
  let v53 : Index := Scalar.indexCast c1_i32_23
  let c0_i32_11 : BitVec 32 := 0#32
  let c0_i32_4 : BitVec 32 := 0#32
  let c1_i32 : BitVec 32 := 1#32
  let arg12 : BitVec 32 := Scf.iv c0_i32_4 c1_i32 k0_t1
  let c16_i32 : BitVec 32 := 16#32
  let v16 : BitVec 32 := Scalar.muli arg12 c16_i32
  let v17 : BitVec 32 := Scalar.addi c0_i32_11 v16
  let v54 : Index := Scalar.indexCast v17
  ![1, v54.toNat]

def k0_chk5 (v61 : IVec S16 32) : Prop :=
  (∀ a x, ((![v61] : Fin 1 → IVec S16 32) a x).toNat < S16.size a)
theorem k0_idx5_inb : ∀ (v61 : IVec S16 32) (k0_hw5 : k0_chk5 v61), ∀ a x, ((![v61] : Fin 1 → IVec S16 32) a x).toNat < S16.size a := fun v61 k0_hw5 => k0_hw5

def k0_chk6 (v69 : IVec S16 32) : Prop :=
  (∀ a x, ((![v69] : Fin 1 → IVec S16 32) a x).toNat < S16.size a)
theorem k0_idx6_inb : ∀ (v69 : IVec S16 32) (k0_hw6 : k0_chk6 v69), ∀ a x, ((![v69] : Fin 1 → IVec S16 32) a x).toNat < S16.size a := fun v69 k0_hw6 => k0_hw6

def k0_chk7 (v75 : IVec S16 32) : Prop :=
  (∀ a x, ((![v75] : Fin 1 → IVec S16 32) a x).toNat < S16.size a)
theorem k0_idx7_inb : ∀ (v75 : IVec S16 32) (k0_hw7 : k0_chk7 v75), ∀ a x, ((![v75] : Fin 1 → IVec S16 32) a x).toNat < S16.size a := fun v75 k0_hw7 => k0_hw7
def k0_off5 (k0_t1 : Fin k0_t1_loop.trips) : Fin 2 → Nat :=
  let c1_i32_35 : BitVec 32 := 1#32
  let v85 : Index := Scalar.indexCast c1_i32_35
  let c0_i32_11 : BitVec 32 := 0#32
  let c0_i32_4 : BitVec 32 := 0#32
  let c1_i32 : BitVec 32 := 1#32
  let arg12 : BitVec 32 := Scf.iv c0_i32_4 c1_i32 k0_t1
  let c16_i32 : BitVec 32 := 16#32
  let v16 : BitVec 32 := Scalar.muli arg12 c16_i32
  let v17 : BitVec 32 := Scalar.addi c0_i32_11 v16
  let v86 : Index := Scalar.indexCast v17
  ![1, v86.toNat]
def k0_off6 (k0_t1 : Fin k0_t1_loop.trips) : Fin 2 → Nat :=
  let c2_i32_36 : BitVec 32 := 2#32
  let v88 : Index := Scalar.indexCast c2_i32_36
  let c0_i32_11 : BitVec 32 := 0#32
  let c0_i32_4 : BitVec 32 := 0#32
  let c1_i32 : BitVec 32 := 1#32
  let arg12 : BitVec 32 := Scf.iv c0_i32_4 c1_i32 k0_t1
  let c16_i32 : BitVec 32 := 16#32
  let v16 : BitVec 32 := Scalar.muli arg12 c16_i32
  let v17 : BitVec 32 := Scalar.addi c0_i32_11 v16
  let v89 : Index := Scalar.indexCast v17
  ![2, v89.toNat]

def k0_chk8 (v96 : IVec S16 32) : Prop :=
  (∀ a x, ((![v96] : Fin 1 → IVec S16 32) a x).toNat < S16.size a)
theorem k0_idx8_inb : ∀ (v96 : IVec S16 32) (k0_hw8 : k0_chk8 v96), ∀ a x, ((![v96] : Fin 1 → IVec S16 32) a x).toNat < S16.size a := fun v96 k0_hw8 => k0_hw8

def k0_chk9 (v104 : IVec S16 32) : Prop :=
  (∀ a x, ((![v104] : Fin 1 → IVec S16 32) a x).toNat < S16.size a)
theorem k0_idx9_inb : ∀ (v104 : IVec S16 32) (k0_hw9 : k0_chk9 v104), ∀ a x, ((![v104] : Fin 1 → IVec S16 32) a x).toNat < S16.size a := fun v104 k0_hw9 => k0_hw9

def k0_chk10 (v110 : IVec S16 32) : Prop :=
  (∀ a x, ((![v110] : Fin 1 → IVec S16 32) a x).toNat < S16.size a)
theorem k0_idx10_inb : ∀ (v110 : IVec S16 32) (k0_hw10 : k0_chk10 v110), ∀ a x, ((![v110] : Fin 1 → IVec S16 32) a x).toNat < S16.size a := fun v110 k0_hw10 => k0_hw10
def k0_off7 (k0_t1 : Fin k0_t1_loop.trips) : Fin 2 → Nat :=
  let c2_i32_48 : BitVec 32 := 2#32
  let v120 : Index := Scalar.indexCast c2_i32_48
  let c0_i32_11 : BitVec 32 := 0#32
  let c0_i32_4 : BitVec 32 := 0#32
  let c1_i32 : BitVec 32 := 1#32
  let arg12 : BitVec 32 := Scf.iv c0_i32_4 c1_i32 k0_t1
  let c16_i32 : BitVec 32 := 16#32
  let v16 : BitVec 32 := Scalar.muli arg12 c16_i32
  let v17 : BitVec 32 := Scalar.addi c0_i32_11 v16
  let v121 : Index := Scalar.indexCast v17
  ![2, v121.toNat]
def k0_off8 (k0_t1 : Fin k0_t1_loop.trips) : Fin 2 → Nat :=
  let c3_i32_49 : BitVec 32 := 3#32
  let v123 : Index := Scalar.indexCast c3_i32_49
  let c0_i32_11 : BitVec 32 := 0#32
  let c0_i32_4 : BitVec 32 := 0#32
  let c1_i32 : BitVec 32 := 1#32
  let arg12 : BitVec 32 := Scf.iv c0_i32_4 c1_i32 k0_t1
  let c16_i32 : BitVec 32 := 16#32
  let v16 : BitVec 32 := Scalar.muli arg12 c16_i32
  let v17 : BitVec 32 := Scalar.addi c0_i32_11 v16
  let v124 : Index := Scalar.indexCast v17
  ![3, v124.toNat]

def k0_chk11 (v131 : IVec S16 32) : Prop :=
  (∀ a x, ((![v131] : Fin 1 → IVec S16 32) a x).toNat < S16.size a)
theorem k0_idx11_inb : ∀ (v131 : IVec S16 32) (k0_hw11 : k0_chk11 v131), ∀ a x, ((![v131] : Fin 1 → IVec S16 32) a x).toNat < S16.size a := fun v131 k0_hw11 => k0_hw11

def k0_chk12 (v139 : IVec S16 32) : Prop :=
  (∀ a x, ((![v139] : Fin 1 → IVec S16 32) a x).toNat < S16.size a)
theorem k0_idx12_inb : ∀ (v139 : IVec S16 32) (k0_hw12 : k0_chk12 v139), ∀ a x, ((![v139] : Fin 1 → IVec S16 32) a x).toNat < S16.size a := fun v139 k0_hw12 => k0_hw12

def k0_chk13 (v145 : IVec S16 32) : Prop :=
  (∀ a x, ((![v145] : Fin 1 → IVec S16 32) a x).toNat < S16.size a)
theorem k0_idx13_inb : ∀ (v145 : IVec S16 32) (k0_hw13 : k0_chk13 v145), ∀ a x, ((![v145] : Fin 1 → IVec S16 32) a x).toNat < S16.size a := fun v145 k0_hw13 => k0_hw13
def k0_off9 (k0_t1 : Fin k0_t1_loop.trips) : Fin 2 → Nat :=
  let c3_i32_61 : BitVec 32 := 3#32
  let v155 : Index := Scalar.indexCast c3_i32_61
  let c0_i32_11 : BitVec 32 := 0#32
  let c0_i32_4 : BitVec 32 := 0#32
  let c1_i32 : BitVec 32 := 1#32
  let arg12 : BitVec 32 := Scf.iv c0_i32_4 c1_i32 k0_t1
  let c16_i32 : BitVec 32 := 16#32
  let v16 : BitVec 32 := Scalar.muli arg12 c16_i32
  let v17 : BitVec 32 := Scalar.addi c0_i32_11 v16
  let v156 : Index := Scalar.indexCast v17
  ![3, v156.toNat]
def k0_off10 (k0_t1 : Fin k0_t1_loop.trips) : Fin 2 → Nat :=
  let c4_i32_62 : BitVec 32 := 4#32
  let v158 : Index := Scalar.indexCast c4_i32_62
  let c0_i32_11 : BitVec 32 := 0#32
  let c0_i32_4 : BitVec 32 := 0#32
  let c1_i32 : BitVec 32 := 1#32
  let arg12 : BitVec 32 := Scf.iv c0_i32_4 c1_i32 k0_t1
  let c16_i32 : BitVec 32 := 16#32
  let v16 : BitVec 32 := Scalar.muli arg12 c16_i32
  let v17 : BitVec 32 := Scalar.addi c0_i32_11 v16
  let v159 : Index := Scalar.indexCast v17
  ![4, v159.toNat]

def k0_chk14 (v166 : IVec S16 32) : Prop :=
  (∀ a x, ((![v166] : Fin 1 → IVec S16 32) a x).toNat < S16.size a)
theorem k0_idx14_inb : ∀ (v166 : IVec S16 32) (k0_hw14 : k0_chk14 v166), ∀ a x, ((![v166] : Fin 1 → IVec S16 32) a x).toNat < S16.size a := fun v166 k0_hw14 => k0_hw14

def k0_chk15 (v174 : IVec S16 32) : Prop :=
  (∀ a x, ((![v174] : Fin 1 → IVec S16 32) a x).toNat < S16.size a)
theorem k0_idx15_inb : ∀ (v174 : IVec S16 32) (k0_hw15 : k0_chk15 v174), ∀ a x, ((![v174] : Fin 1 → IVec S16 32) a x).toNat < S16.size a := fun v174 k0_hw15 => k0_hw15

def k0_chk16 (v180 : IVec S16 32) : Prop :=
  (∀ a x, ((![v180] : Fin 1 → IVec S16 32) a x).toNat < S16.size a)
theorem k0_idx16_inb : ∀ (v180 : IVec S16 32) (k0_hw16 : k0_chk16 v180), ∀ a x, ((![v180] : Fin 1 → IVec S16 32) a x).toNat < S16.size a := fun v180 k0_hw16 => k0_hw16
def k0_off11 (k0_t1 : Fin k0_t1_loop.trips) : Fin 2 → Nat :=
  let c4_i32_74 : BitVec 32 := 4#32
  let v190 : Index := Scalar.indexCast c4_i32_74
  let c0_i32_11 : BitVec 32 := 0#32
  let c0_i32_4 : BitVec 32 := 0#32
  let c1_i32 : BitVec 32 := 1#32
  let arg12 : BitVec 32 := Scf.iv c0_i32_4 c1_i32 k0_t1
  let c16_i32 : BitVec 32 := 16#32
  let v16 : BitVec 32 := Scalar.muli arg12 c16_i32
  let v17 : BitVec 32 := Scalar.addi c0_i32_11 v16
  let v191 : Index := Scalar.indexCast v17
  ![4, v191.toNat]
def k0_off12 (k0_t1 : Fin k0_t1_loop.trips) : Fin 2 → Nat :=
  let c5_i32 : BitVec 32 := 5#32
  let v193 : Index := Scalar.indexCast c5_i32
  let c0_i32_11 : BitVec 32 := 0#32
  let c0_i32_4 : BitVec 32 := 0#32
  let c1_i32 : BitVec 32 := 1#32
  let arg12 : BitVec 32 := Scf.iv c0_i32_4 c1_i32 k0_t1
  let c16_i32 : BitVec 32 := 16#32
  let v16 : BitVec 32 := Scalar.muli arg12 c16_i32
  let v17 : BitVec 32 := Scalar.addi c0_i32_11 v16
  let v194 : Index := Scalar.indexCast v17
  ![5, v194.toNat]

def k0_chk17 (v201 : IVec S16 32) : Prop :=
  (∀ a x, ((![v201] : Fin 1 → IVec S16 32) a x).toNat < S16.size a)
theorem k0_idx17_inb : ∀ (v201 : IVec S16 32) (k0_hw17 : k0_chk17 v201), ∀ a x, ((![v201] : Fin 1 → IVec S16 32) a x).toNat < S16.size a := fun v201 k0_hw17 => k0_hw17

def k0_chk18 (v209 : IVec S16 32) : Prop :=
  (∀ a x, ((![v209] : Fin 1 → IVec S16 32) a x).toNat < S16.size a)
theorem k0_idx18_inb : ∀ (v209 : IVec S16 32) (k0_hw18 : k0_chk18 v209), ∀ a x, ((![v209] : Fin 1 → IVec S16 32) a x).toNat < S16.size a := fun v209 k0_hw18 => k0_hw18

def k0_chk19 (v215 : IVec S16 32) : Prop :=
  (∀ a x, ((![v215] : Fin 1 → IVec S16 32) a x).toNat < S16.size a)
theorem k0_idx19_inb : ∀ (v215 : IVec S16 32) (k0_hw19 : k0_chk19 v215), ∀ a x, ((![v215] : Fin 1 → IVec S16 32) a x).toNat < S16.size a := fun v215 k0_hw19 => k0_hw19
def k0_off13 (k0_t1 : Fin k0_t1_loop.trips) : Fin 2 → Nat :=
  let c5_i32_86 : BitVec 32 := 5#32
  let v225 : Index := Scalar.indexCast c5_i32_86
  let c0_i32_11 : BitVec 32 := 0#32
  let c0_i32_4 : BitVec 32 := 0#32
  let c1_i32 : BitVec 32 := 1#32
  let arg12 : BitVec 32 := Scf.iv c0_i32_4 c1_i32 k0_t1
  let c16_i32 : BitVec 32 := 16#32
  let v16 : BitVec 32 := Scalar.muli arg12 c16_i32
  let v17 : BitVec 32 := Scalar.addi c0_i32_11 v16
  let v226 : Index := Scalar.indexCast v17
  ![5, v226.toNat]
def k0_off14 (k0_t1 : Fin k0_t1_loop.trips) : Fin 2 → Nat :=
  let c6_i32 : BitVec 32 := 6#32
  let v228 : Index := Scalar.indexCast c6_i32
  let c0_i32_11 : BitVec 32 := 0#32
  let c0_i32_4 : BitVec 32 := 0#32
  let c1_i32 : BitVec 32 := 1#32
  let arg12 : BitVec 32 := Scf.iv c0_i32_4 c1_i32 k0_t1
  let c16_i32 : BitVec 32 := 16#32
  let v16 : BitVec 32 := Scalar.muli arg12 c16_i32
  let v17 : BitVec 32 := Scalar.addi c0_i32_11 v16
  let v229 : Index := Scalar.indexCast v17
  ![6, v229.toNat]

def k0_chk20 (v236 : IVec S16 32) : Prop :=
  (∀ a x, ((![v236] : Fin 1 → IVec S16 32) a x).toNat < S16.size a)
theorem k0_idx20_inb : ∀ (v236 : IVec S16 32) (k0_hw20 : k0_chk20 v236), ∀ a x, ((![v236] : Fin 1 → IVec S16 32) a x).toNat < S16.size a := fun v236 k0_hw20 => k0_hw20

def k0_chk21 (v244 : IVec S16 32) : Prop :=
  (∀ a x, ((![v244] : Fin 1 → IVec S16 32) a x).toNat < S16.size a)
theorem k0_idx21_inb : ∀ (v244 : IVec S16 32) (k0_hw21 : k0_chk21 v244), ∀ a x, ((![v244] : Fin 1 → IVec S16 32) a x).toNat < S16.size a := fun v244 k0_hw21 => k0_hw21

def k0_chk22 (v250 : IVec S16 32) : Prop :=
  (∀ a x, ((![v250] : Fin 1 → IVec S16 32) a x).toNat < S16.size a)
theorem k0_idx22_inb : ∀ (v250 : IVec S16 32) (k0_hw22 : k0_chk22 v250), ∀ a x, ((![v250] : Fin 1 → IVec S16 32) a x).toNat < S16.size a := fun v250 k0_hw22 => k0_hw22
def k0_off15 (k0_t1 : Fin k0_t1_loop.trips) : Fin 2 → Nat :=
  let c6_i32_98 : BitVec 32 := 6#32
  let v260 : Index := Scalar.indexCast c6_i32_98
  let c0_i32_11 : BitVec 32 := 0#32
  let c0_i32_4 : BitVec 32 := 0#32
  let c1_i32 : BitVec 32 := 1#32
  let arg12 : BitVec 32 := Scf.iv c0_i32_4 c1_i32 k0_t1
  let c16_i32 : BitVec 32 := 16#32
  let v16 : BitVec 32 := Scalar.muli arg12 c16_i32
  let v17 : BitVec 32 := Scalar.addi c0_i32_11 v16
  let v261 : Index := Scalar.indexCast v17
  ![6, v261.toNat]
def k0_off16 (k0_t1 : Fin k0_t1_loop.trips) : Fin 2 → Nat :=
  let c7_i32_99 : BitVec 32 := 7#32
  let v263 : Index := Scalar.indexCast c7_i32_99
  let c0_i32_11 : BitVec 32 := 0#32
  let c0_i32_4 : BitVec 32 := 0#32
  let c1_i32 : BitVec 32 := 1#32
  let arg12 : BitVec 32 := Scf.iv c0_i32_4 c1_i32 k0_t1
  let c16_i32 : BitVec 32 := 16#32
  let v16 : BitVec 32 := Scalar.muli arg12 c16_i32
  let v17 : BitVec 32 := Scalar.addi c0_i32_11 v16
  let v264 : Index := Scalar.indexCast v17
  ![7, v264.toNat]

def k0_chk23 (v271 : IVec S16 32) : Prop :=
  (∀ a x, ((![v271] : Fin 1 → IVec S16 32) a x).toNat < S16.size a)
theorem k0_idx23_inb : ∀ (v271 : IVec S16 32) (k0_hw23 : k0_chk23 v271), ∀ a x, ((![v271] : Fin 1 → IVec S16 32) a x).toNat < S16.size a := fun v271 k0_hw23 => k0_hw23

def k0_chk24 (v279 : IVec S16 32) : Prop :=
  (∀ a x, ((![v279] : Fin 1 → IVec S16 32) a x).toNat < S16.size a)
theorem k0_idx24_inb : ∀ (v279 : IVec S16 32) (k0_hw24 : k0_chk24 v279), ∀ a x, ((![v279] : Fin 1 → IVec S16 32) a x).toNat < S16.size a := fun v279 k0_hw24 => k0_hw24

def k0_chk25 (v285 : IVec S16 32) : Prop :=
  (∀ a x, ((![v285] : Fin 1 → IVec S16 32) a x).toNat < S16.size a)
theorem k0_idx25_inb : ∀ (v285 : IVec S16 32) (k0_hw25 : k0_chk25 v285), ∀ a x, ((![v285] : Fin 1 → IVec S16 32) a x).toNat < S16.size a := fun v285 k0_hw25 => k0_hw25
def k0_off17 (k0_t1 : Fin k0_t1_loop.trips) : Fin 2 → Nat :=
  let c7_i32_111 : BitVec 32 := 7#32
  let v295 : Index := Scalar.indexCast c7_i32_111
  let c0_i32_11 : BitVec 32 := 0#32
  let c0_i32_4 : BitVec 32 := 0#32
  let c1_i32 : BitVec 32 := 1#32
  let arg12 : BitVec 32 := Scf.iv c0_i32_4 c1_i32 k0_t1
  let c16_i32 : BitVec 32 := 16#32
  let v16 : BitVec 32 := Scalar.muli arg12 c16_i32
  let v17 : BitVec 32 := Scalar.addi c0_i32_11 v16
  let v296 : Index := Scalar.indexCast v17
  ![7, v296.toNat]
def k0_off18 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32_6 : BitVec 32 := 0#32
  let v11 : BitVec 32 := Scalar.addi v2 c0_i32_6
  let c0_i32_7 : BitVec 32 := 0#32
  ![v11.toNat, 0]
abbrev grid1 : Pipeline.Grid := ⟨1, ![31], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

abbrev stage1_0 : Fin 1 → Memref sig .tc .smem S1x15 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8192x4096 : Shape := ⟨2, ![8192, 4096]⟩
abbrev S15 : Shape := ⟨1, ![15]⟩
abbrev S_ : Shape := ⟨0, ![]⟩
abbrev S1 : Shape := ⟨1, ![1]⟩

abbrev nBuf : Space → Nat
  | .hbm => 97
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S15, .f32⟩
  | .hbm, ⟨2, _⟩ => ⟨S_, .f32⟩
  | .hbm, ⟨3, _⟩ => ⟨S8192x4096, .f32⟩
  | .hbm, ⟨4, _⟩ => ⟨S1, .f32⟩
  | .hbm, ⟨5, _⟩ => ⟨S_, .f32⟩
  | .hbm, ⟨6, _⟩ => ⟨S8192x4096, .f32⟩
  | .hbm, ⟨7, _⟩ => ⟨S8192x4096, .i1⟩
  | .hbm, ⟨8, _⟩ => ⟨S8192x4096, .f32⟩
  | .hbm, ⟨9, _⟩ => ⟨S8192x4096, .f32⟩
  | .hbm, ⟨10, _⟩ => ⟨S1, .f32⟩
  | .hbm, ⟨11, _⟩ => ⟨S_, .f32⟩
  | .hbm, ⟨12, _⟩ => ⟨S8192x4096, .f32⟩
  | .hbm, ⟨13, _⟩ => ⟨S8192x4096, .i1⟩
  | .hbm, ⟨14, _⟩ => ⟨S8192x4096, .f32⟩
  | .hbm, ⟨15, _⟩ => ⟨S8192x4096, .f32⟩
  | .hbm, ⟨16, _⟩ => ⟨S1, .f32⟩
  | .hbm, ⟨17, _⟩ => ⟨S_, .f32⟩
  | .hbm, ⟨18, _⟩ => ⟨S8192x4096, .f32⟩
  | .hbm, ⟨19, _⟩ => ⟨S8192x4096, .i1⟩
  | .hbm, ⟨20, _⟩ => ⟨S8192x4096, .f32⟩
  | .hbm, ⟨21, _⟩ => ⟨S8192x4096, .f32⟩
  | .hbm, ⟨22, _⟩ => ⟨S1, .f32⟩
  | .hbm, ⟨23, _⟩ => ⟨S_, .f32⟩
  | .hbm, ⟨24, _⟩ => ⟨S8192x4096, .f32⟩
  | .hbm, ⟨25, _⟩ => ⟨S8192x4096, .i1⟩
  | .hbm, ⟨26, _⟩ => ⟨S8192x4096, .f32⟩
  | .hbm, ⟨27, _⟩ => ⟨S8192x4096, .f32⟩
  | .hbm, ⟨28, _⟩ => ⟨S1, .f32⟩
  | .hbm, ⟨29, _⟩ => ⟨S_, .f32⟩
  | .hbm, ⟨30, _⟩ => ⟨S8192x4096, .f32⟩
  | .hbm, ⟨31, _⟩ => ⟨S8192x4096, .i1⟩
  | .hbm, ⟨32, _⟩ => ⟨S8192x4096, .f32⟩
  | .hbm, ⟨33, _⟩ => ⟨S8192x4096, .f32⟩
  | .hbm, ⟨34, _⟩ => ⟨S1, .f32⟩
  | .hbm, ⟨35, _⟩ => ⟨S_, .f32⟩
  | .hbm, ⟨36, _⟩ => ⟨S8192x4096, .f32⟩
  | .hbm, ⟨37, _⟩ => ⟨S8192x4096, .i1⟩
  | .hbm, ⟨38, _⟩ => ⟨S8192x4096, .f32⟩
  | .hbm, ⟨39, _⟩ => ⟨S8192x4096, .f32⟩
  | .hbm, ⟨40, _⟩ => ⟨S1, .f32⟩
  | .hbm, ⟨41, _⟩ => ⟨S_, .f32⟩
  | .hbm, ⟨42, _⟩ => ⟨S8192x4096, .f32⟩
  | .hbm, ⟨43, _⟩ => ⟨S8192x4096, .i1⟩
  | .hbm, ⟨44, _⟩ => ⟨S8192x4096, .f32⟩
  | .hbm, ⟨45, _⟩ => ⟨S8192x4096, .f32⟩
  | .hbm, ⟨46, _⟩ => ⟨S1, .f32⟩
  | .hbm, ⟨47, _⟩ => ⟨S_, .f32⟩
  | .hbm, ⟨48, _⟩ => ⟨S8192x4096, .f32⟩
  | .hbm, ⟨49, _⟩ => ⟨S8192x4096, .i1⟩
  | .hbm, ⟨50, _⟩ => ⟨S8192x4096, .f32⟩
  | .hbm, ⟨51, _⟩ => ⟨S8192x4096, .f32⟩
  | .hbm, ⟨52, _⟩ => ⟨S1, .f32⟩
  | .hbm, ⟨53, _⟩ => ⟨S_, .f32⟩
  | .hbm, ⟨54, _⟩ => ⟨S8192x4096, .f32⟩
  | .hbm, ⟨55, _⟩ => ⟨S8192x4096, .i1⟩
  | .hbm, ⟨56, _⟩ => ⟨S8192x4096, .f32⟩
  | .hbm, ⟨57, _⟩ => ⟨S8192x4096, .f32⟩
  | .hbm, ⟨58, _⟩ => ⟨S1, .f32⟩
  | .hbm, ⟨59, _⟩ => ⟨S_, .f32⟩
  | .hbm, ⟨60, _⟩ => ⟨S8192x4096, .f32⟩
  | .hbm, ⟨61, _⟩ => ⟨S8192x4096, .i1⟩
  | .hbm, ⟨62, _⟩ => ⟨S8192x4096, .f32⟩
  | .hbm, ⟨63, _⟩ => ⟨S8192x4096, .f32⟩
  | .hbm, ⟨64, _⟩ => ⟨S1, .f32⟩
  | .hbm, ⟨65, _⟩ => ⟨S_, .f32⟩
  | .hbm, ⟨66, _⟩ => ⟨S8192x4096, .f32⟩
  | .hbm, ⟨67, _⟩ => ⟨S8192x4096, .i1⟩
  | .hbm, ⟨68, _⟩ => ⟨S8192x4096, .f32⟩
  | .hbm, ⟨69, _⟩ => ⟨S8192x4096, .f32⟩
  | .hbm, ⟨70, _⟩ => ⟨S1, .f32⟩
  | .hbm, ⟨71, _⟩ => ⟨S_, .f32⟩
  | .hbm, ⟨72, _⟩ => ⟨S8192x4096, .f32⟩
  | .hbm, ⟨73, _⟩ => ⟨S8192x4096, .i1⟩
  | .hbm, ⟨74, _⟩ => ⟨S8192x4096, .f32⟩
  | .hbm, ⟨75, _⟩ => ⟨S8192x4096, .f32⟩
  | .hbm, ⟨76, _⟩ => ⟨S1, .f32⟩
  | .hbm, ⟨77, _⟩ => ⟨S_, .f32⟩
  | .hbm, ⟨78, _⟩ => ⟨S8192x4096, .f32⟩
  | .hbm, ⟨79, _⟩ => ⟨S8192x4096, .i1⟩
  | .hbm, ⟨80, _⟩ => ⟨S8192x4096, .f32⟩
  | .hbm, ⟨81, _⟩ => ⟨S8192x4096, .f32⟩
  | .hbm, ⟨82, _⟩ => ⟨S1, .f32⟩
  | .hbm, ⟨83, _⟩ => ⟨S_, .f32⟩
  | .hbm, ⟨84, _⟩ => ⟨S8192x4096, .f32⟩
  | .hbm, ⟨85, _⟩ => ⟨S8192x4096, .i1⟩
  | .hbm, ⟨86, _⟩ => ⟨S8192x4096, .f32⟩
  | .hbm, ⟨87, _⟩ => ⟨S8192x4096, .f32⟩
  | .hbm, ⟨88, _⟩ => ⟨S1, .f32⟩
  | .hbm, ⟨89, _⟩ => ⟨S_, .f32⟩
  | .hbm, ⟨90, _⟩ => ⟨S8192x4096, .f32⟩
  | .hbm, ⟨91, _⟩ => ⟨S8192x4096, .i1⟩
  | .hbm, ⟨92, _⟩ => ⟨S8192x4096, .f32⟩
  | .hbm, ⟨93, _⟩ => ⟨S8192x4096, .f32⟩
  | .hbm, ⟨94, _⟩ => ⟨S_, .f32⟩
  | .hbm, ⟨95, _⟩ => ⟨S8192x4096, .f32⟩
  | .hbm, ⟨96, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v69 : Ref sig .tc := ⟨.hbm, 72, rfl⟩
abbrev main_v70 : Ref sig .tc := ⟨.hbm, 73, rfl⟩
abbrev main_v71 : Ref sig .tc := ⟨.hbm, 74, rfl⟩
abbrev main_v72 : Ref sig .tc := ⟨.hbm, 75, rfl⟩
abbrev main_v73 : Ref sig .tc := ⟨.hbm, 76, rfl⟩
abbrev main_v74 : Ref sig .tc := ⟨.hbm, 77, rfl⟩
abbrev main_v75 : Ref sig .tc := ⟨.hbm, 78, rfl⟩
abbrev main_v76 : Ref sig .tc := ⟨.hbm, 79, rfl⟩
abbrev main_v77 : Ref sig .tc := ⟨.hbm, 80, rfl⟩
abbrev main_v78 : Ref sig .tc := ⟨.hbm, 81, rfl⟩
abbrev main_v79 : Ref sig .tc := ⟨.hbm, 82, rfl⟩
abbrev main_v80 : Ref sig .tc := ⟨.hbm, 83, rfl⟩
abbrev main_v81 : Ref sig .tc := ⟨.hbm, 84, rfl⟩
abbrev main_v82 : Ref sig .tc := ⟨.hbm, 85, rfl⟩
abbrev main_v83 : Ref sig .tc := ⟨.hbm, 86, rfl⟩
abbrev main_v84 : Ref sig .tc := ⟨.hbm, 87, rfl⟩
abbrev main_v85 : Ref sig .tc := ⟨.hbm, 88, rfl⟩
abbrev main_v86 : Ref sig .tc := ⟨.hbm, 89, rfl⟩
abbrev main_v87 : Ref sig .tc := ⟨.hbm, 90, rfl⟩
abbrev main_v88 : Ref sig .tc := ⟨.hbm, 91, rfl⟩
abbrev main_v89 : Ref sig .tc := ⟨.hbm, 92, rfl⟩
abbrev main_v90 : Ref sig .tc := ⟨.hbm, 93, rfl⟩
abbrev main_cst_0 : Ref sig .tc := ⟨.hbm, 94, rfl⟩
abbrev main_v91 : Ref sig .tc := ⟨.hbm, 95, rfl⟩
abbrev main_v92 : Ref sig .tc := ⟨.hbm, 96, rfl⟩

abbrev nD : Nat := 1
abbrev τ : Topo := Topo.v7x

variable {F : FTy → Type} [FloatOps F]
-- ==== Proof.Row.lean ====
module

/- One lane of the search, and one row of a tile's step: sixteen elements are loaded, each looked up
   in the sixteen-entry table by three indexed loads, and the sixteen results stored in place. -/

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.Pipeline.ValueKit
public import Idealize.ShloMosaic.Lib.Tactic
public import proofs.«01_k».proof.Proof.Gen.KernelIdeal
public import proofs.«01_k».proof.Proof.Gen.KernelIdeal.Skeleton

@[expose] public section

noncomputable section

namespace Cert.Proof

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The search on one element -/

/-- Entry `n` of a sixteen-entry table. -/
def idx16 (n : ℕ) : S16.Idx := fun a => ⟨n % S16.size a, Nat.mod_lt _ (by revert a; decide)⟩
def tab (T : Vec F S16 .f32) (n : ℕ) : F .f32 := T (idx16 n)

/-- Is `a` above entry `n`: the machine's own comparison. -/
def above (T : Vec F S16 .f32) (a : F .f32) (n : ℕ) : BitVec 1 := FloatOps.cmpf .ogt a (tab T n)

/-- The position after the first, second, third and fourth comparison. -/
def pos1 (T : Vec F S16 .f32) (a : F .f32) : BitVec 32 := Scalar.select (above T a 7) 8#32 0#32
def pos2 (T : Vec F S16 .f32) (a : F .f32) : BitVec 32 := pos1 T a + Scalar.select (above T a (pos1 T a + 3#32).toNat) 4#32 0#32
def pos3 (T : Vec F S16 .f32) (a : F .f32) : BitVec 32 := pos2 T a + Scalar.select (above T a (pos2 T a + 1#32).toNat) 2#32 0#32
def pos4 (T : Vec F S16 .f32) (a : F .f32) : BitVec 32 := pos3 T a + Scalar.select (above T a (pos3 T a).toNat) 1#32 0#32
/-- What the vector subcores leave for `a`: its position less eight, as a float. -/
def lane (T : Vec F S16 .f32) (a : F .f32) : F .f32 := FloatOps.sitofp .f32 (pos4 T a - 8#32)

theorem select_cases {α : Type} (c : BitVec 1) (x y : α) : Scalar.select c x y = x ∨ Scalar.select c x y = y := by
  unfold Scalar.select; split
  · exact .inl rfl
  · exact .inr rfl

theorem pos1_cases (T : Vec F S16 .f32) (a : F .f32) : pos1 T a = 8#32 ∨ pos1 T a = 0#32 := select_cases _ _ _
theorem pos2_cases (T : Vec F S16 .f32) (a : F .f32) : pos2 T a = 12#32 ∨ pos2 T a = 8#32 ∨ pos2 T a = 4#32 ∨ pos2 T a = 0#32 := by
  unfold pos2
  rcases pos1_cases T a with h | h <;> rw [h] <;>
    rcases select_cases (above T a _) 4#32 0#32 with h' | h' <;> rw [h'] <;> simp
theorem pos3_cases (T : Vec F S16 .f32) (a : F .f32) : (pos3 T a).toNat < 16 := by
  unfold pos3
  rcases pos2_cases T a with h | h | h | h <;> rw [h] <;>
    rcases select_cases (above T a _) 2#32 0#32 with h' | h' <;> rw [h'] <;> decide

/-! ## One row of a step, as a program -/

section Vectors
variable (v4 : Vec F S16 .f32) (ld : Vec F S1x16 .f32) (g1 g2 g3 : Vec F S16 .f32)

def rowX : Vec F S16 .f32 := shapeCast S16 ld shapeCasts_S1x16_S16
def rowP1 : IVec S16 32 := select (cmpf .ogt (rowX ld) v4) (broadcast S16 8#32) (broadcast S16 0#32)
def rowI1 : IVec S16 32 := addi (rowP1 v4 ld) (broadcast S16 3#32)
def rowP2 : IVec S16 32 := addi (rowP1 v4 ld) (select (cmpf .ogt (rowX ld) g1) (broadcast S16 4#32) (broadcast S16 0#32))
def rowI2 : IVec S16 32 := addi (rowP2 v4 ld g1) (broadcast S16 1#32)
def rowP3 : IVec S16 32 := addi (rowP2 v4 ld g1) (select (cmpf .ogt (rowX ld) g2) (broadcast S16 2#32) (broadcast S16 0#32))
def rowOut : FVec F S16 .f32 :=
  sitofp .f32 (subi (addi (rowP3 v4 ld g1 g2) (select (cmpf .ogt (rowX ld) g3) (broadcast S16 1#32) (broadcast S16 0#32))) (broadcast S16 8#32))
end Vectors

/-- The program of one row: it loads at `oL`, and stores at `oS`. -/
def rowProg (i : grid0.Coords) (arg5 : Memref sig .scVector .vmem S16 .f32) (arg6 : Memref sig .scVector .vmem S8x4096 .f32)
    (v4 : Vec F S16 .f32) (oL oS : Fin S8x4096.rank → ℕ) (hL : ∀ a, oL a + S1x16.size a ≤ S8x4096.size a)
    (hS : ∀ a, oS a + S1x16.size a ≤ S8x4096.size a) :
    Prog (TpuEff nD τ sig (Elt F) Λ₀ (.scVector ((i 0).castLE hcore0) ((i 1).castLE hsub0))) Unit := do
  let ld : Vec F S1x16 .f32 ← Prog.lift (.load arg6 (Rect.unit (s := S8x4096) oL S1x16.size hL).toLoadRect (View.loadsAt_vmem h_S1x16))
  have h1 := (← Prog.lift (TpuEff.assume (k0_chk2 (rowI1 v4 ld)) (k0_chk2.dec (rowI1 v4 ld)))).down
  let g1 : Vec F S16 .f32 ← SparseCore.vectorLoadIdx arg5 ![rowI1 v4 ld] (k0_idx2_inb _ h1) (View.loads_vmem h_S16)
  have h2 := (← Prog.lift (TpuEff.assume (k0_chk2 (rowI2 v4 ld g1)) (k0_chk2.dec (rowI2 v4 ld g1)))).down
  let g2 : Vec F S16 .f32 ← SparseCore.vectorLoadIdx arg5 ![rowI2 v4 ld g1] (k0_idx2_inb _ h2) (View.loads_vmem h_S16)
  have h3 := (← Prog.lift (TpuEff.assume (k0_chk2 (rowP3 v4 ld g1 g2)) (k0_chk2.dec (rowP3 v4 ld g1 g2)))).down
  let g3 : Vec F S16 .f32 ← SparseCore.vectorLoadIdx arg5 ![rowP3 v4 ld g1 g2] (k0_idx2_inb _ h3) (View.loads_vmem h_S16)
  let _ld' : Vec F S1x16 .f32 ← Prog.lift (.load arg6 (Rect.unit (s := S8x4096) oS S1x16.size hS).toLoadRect (View.loadsAt_vmem h_S1x16))
  Prog.lift (.store arg6 (Rect.unit (s := S8x4096) oS S1x16.size hS) (shapeCast S1x16 (rowOut v4 ld g1 g2 g3) shapeCasts_S16_S1x16)
    Finset.univ (View.stores_vmem_bits_univ h_S1x16 rfl) (.inl rfl))

abbrev sT : Memref sig .scVector .vmem S16 .f32 := Memref.whole cc0_scratch0
abbrev sX : Memref sig .scVector .vmem S8x4096 .f32 := Memref.whole cc0_scratch1

set_option maxHeartbeats 4000000 in
set_option maxRecDepth 65536 in
/-- A trip of the tile's loop is its eight rows, one after the other. -/
theorem body_eq (i : grid0.Coords) (arg2 : Memref sig .scVector .hbm S8192x4096 .f32) (harg2 : arg2.IsWhole)
    (arg3 : Memref sig .scVector .hbm S16 .f32) (harg3 : arg3.IsWhole) (arg4 : Memref sig .scVector .hbm S256x4096 .f32) (harg4 : arg4.IsWhole)
    (arg5 : Memref sig .scVector .vmem S16 .f32) (harg5 : arg5.IsWhole) (arg6 : Memref sig .scVector .vmem S8x4096 .f32) (harg6 : arg6.IsWhole)
    (arg7 : Memref sig .scVector .vmem S8x4096 .f32) (harg7 : arg7.IsWhole) (arg8 arg9 arg10 arg11 r0 : DmaSems sig S_)
    (v4 : Vec F S16 .f32) (t : Fin k0_t1_loop.trips) :
    k0_t1_body (F := F) i arg2 harg2 arg3 harg3 arg4 harg4 arg5 harg5 arg6 harg6 arg7 harg7 arg8 arg9 arg10 arg11 r0 v4 t ()
      = (do
          rowProg i arg5 arg6 v4 (k0_off2 t) (k0_off3 t) (k0_off2_inb t) (k0_off3_inb t)
          rowProg i arg5 arg6 v4 (k0_off4 t) (k0_off5 t) (k0_off4_inb t) (k0_off5_inb t)
          rowProg i arg5 arg6 v4 (k0_off6 t) (k0_off7 t) (k0_off6_inb t) (k0_off7_inb t)
          rowProg i arg5 arg6 v4 (k0_off8 t) (k0_off9 t) (k0_off8_inb t) (k0_off9_inb t)
          rowProg i arg5 arg6 v4 (k0_off10 t) (k0_off11 t) (k0_off10_inb t) (k0_off11_inb t)
          rowProg i arg5 arg6 v4 (k0_off12 t) (k0_off13 t) (k0_off12_inb t) (k0_off13_inb t)
          rowProg i arg5 arg6 v4 (k0_off14 t) (k0_off15 t) (k0_off14_inb t) (k0_off15_inb t)
          rowProg i arg5 arg6 v4 (k0_off16 t) (k0_off17 t) (k0_off16_inb t) (k0_off17_inb t)) := by
  unfold k0_t1_body
  simp only [k0_part1_eq_skeleton, k0_part2_eq_skeleton, k0_part3_eq_skeleton, k0_part4_eq_skeleton, k0_part5_eq_skeleton,
    k0_part6_eq_skeleton, k0_part7_eq_skeleton]
  rfl

end Cert.Proof
-- ==== Proof.Setup.lean ====
module

/- The program as the launch theorems see it, and the resources the proof runs on. -/

public import proofs.«01_k».proof.Proof.Row

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! The resource algebra: the handshakes' rounds, the TensorCore pipeline's rounds, the transfers' counters. -/

abbrev UH : Type := URounds (GSem nD τ sig) ℕ
abbrev UP : Type := URounds (GSem nD τ sig) Unit
abbrev UU : Type := UH × (UP × Counters)

abbrev EH : Emb UH (MT nD τ sig (HIx 1) (Elt F) ℕ UU ℕ) := embL
def EP : Emb UP (MT nD τ sig (HIx 1) (Elt F) ℕ UU ℕ) := (Emb.inl : Emb UP (UP × Counters)).trans embR

instance EP_landsIn : (EP : Emb UP (MT nD τ sig (HIx 1) (Elt F) ℕ UU ℕ)).LandsIn (upEmb : UEmb _ _) := by
  unfold EP; infer_instance

end Cert.Proof
-- ==== Proof.Tile.lean ====
module

/- One vector subcore's task: its table and its eight rows of `x` are fetched, every row's elements
   looked up in place, sixteen at a time, and the eight rows written out. -/

public import proofs.«01_k».proof.Proof.Setup

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## What a row's store leaves -/

/-- Row `r`, columns `c` to `c + 15` looked up, the rest as it was. -/
def rowUpd (T : Vec F S16 .f32) (r c : ℕ) (f : S8x4096.Idx → Elt F .f32) : S8x4096.Idx → Elt F .f32 :=
  fun j => if (j 0).val = r ∧ c ≤ (j 1).val ∧ (j 1).val < c + 16 then lane T (f j) else f j

section Values
variable (T : Vec F S16 .f32) (ld : Vec F S1x16 .f32)

abbrev v4T : Vec F S16 .f32 := fun _ => tab T 7
/-- The entries the three indexed loads fetch. -/
def got1 : Vec F S16 .f32 := fun i => tab T (pos1 T (rowX ld i) + 3#32).toNat
def got2 : Vec F S16 .f32 := fun i => tab T (pos2 T (rowX ld i) + 1#32).toNat
def got3 : Vec F S16 .f32 := fun i => tab T (pos3 T (rowX ld i)).toNat

theorem rowI1_apply (i) : rowI1 (v4T T) ld i = pos1 T (rowX ld i) + 3#32 := rfl
theorem rowI2_apply (i) : rowI2 (v4T T) ld (got1 T ld) i = pos2 T (rowX ld i) + 1#32 := rfl
theorem rowP3_apply (i) : rowP3 (v4T T) ld (got1 T ld) (got2 T ld) i = pos3 T (rowX ld i) := rfl
theorem rowOut_apply (i) : rowOut (v4T T) ld (got1 T ld) (got2 T ld) (got3 T ld) i = lane T (rowX ld i) := rfl

theorem rowOut_eq : shapeCast S1x16 (rowOut (v4T T) ld (got1 T ld) (got2 T ld) (got3 T ld)) shapeCasts_S16_S1x16 = fun k => lane T (ld k) :=
  shapeCast_shapeCast (fun k => lane T (ld k)) shapeCasts_S1x16_S16 shapeCasts_S16_S1x16

theorem loadIdx_tab (v : IVec S16 32) (h : ∀ a x, ((![v] : Fin S16.rank → IVec S16 32) a x).toNat < S16.size a) :
    loadIdx (F := F) (s := S16) (t := S16) (e := .f32) T ![v] h = fun i => tab T (v i).toNat := by
  funext i
  show T _ = T _
  congr 1
  funext a
  have hv := h a i
  obtain rfl : a = 0 := Subsingleton.elim _ _
  apply Fin.ext
  exact (Nat.mod_eq_of_lt hv).symm

theorem read_sT : (sT.access (Rect.whole S16)).read (Elt F) T = T := by
  funext j
  show T ((Rect.whole S16).emb j) = T j
  congr 1
  funext a
  exact Fin.ext (by rw [Rect.emb_apply]; show 0 + 1 * (j a).val = _; omega)

theorem got1_eq (h) :
    loadIdx (F := F) (s := S16) (t := S16) (e := .f32) ((sT.access (Rect.whole S16)).read (Elt F) T) ![rowI1 (v4T T) ld] h = got1 T ld := by
  rw [read_sT]; exact (loadIdx_tab T _ h).trans (funext fun i => congrArg (fun b : BitVec 32 => tab T b.toNat) (rowI1_apply T ld i))
theorem got2_eq (h) :
    loadIdx (F := F) (s := S16) (t := S16) (e := .f32) ((sT.access (Rect.whole S16)).read (Elt F) T) ![rowI2 (v4T T) ld (got1 T ld)] h = got2 T ld := by
  rw [read_sT]; exact (loadIdx_tab T _ h).trans (funext fun i => congrArg (fun b : BitVec 32 => tab T b.toNat) (rowI2_apply T ld i))
theorem got3_eq (h) :
    loadIdx (F := F) (s := S16) (t := S16) (e := .f32) ((sT.access (Rect.whole S16)).read (Elt F) T) ![rowP3 (v4T T) ld (got1 T ld) (got2 T ld)] h = got3 T ld := by
  rw [read_sT]; exact (loadIdx_tab T _ h).trans (funext fun i => congrArg (fun b : BitVec 32 => tab T b.toNat) (rowP3_apply T ld i))

theorem chk_of (v : IVec S16 32) (h : ∀ i, (v i).toNat < 16) : k0_chk2 v := by
  rw [k0_chk2.eq_1]
  intro a i
  obtain rfl : a = 0 := Subsingleton.elim _ _
  exact h i

theorem chk1 : k0_chk2 (rowI1 (v4T T) ld) := chk_of _ fun i => by
  rw [rowI1_apply]; rcases pos1_cases T (rowX ld i) with h | h <;> rw [h] <;> decide
theorem chk2 : k0_chk2 (rowI2 (v4T T) ld (got1 T ld)) := chk_of _ fun i => by
  rw [rowI2_apply]; rcases pos2_cases T (rowX ld i) with h | h | h | h <;> rw [h] <;> decide
theorem chk3 : k0_chk2 (rowP3 (v4T T) ld (got1 T ld) (got2 T ld)) := chk_of _ fun i => by
  rw [rowP3_apply]; exact pos3_cases T _
end Values

theorem store_eq (T : Vec F S16 .f32) (r c : ℕ) (f : S8x4096.Idx → Elt F .f32) (o : Fin S8x4096.rank → ℕ) (ho : o = ![r, c])
    (h : ∀ a, o a + S1x16.size a ≤ S8x4096.size a) :
    ((sX.access (Rect.unit (s := S8x4096) o S1x16.size h)).write (Elt F) f
      (fun k => lane T (sX.view.readAt (Elt F) (Rect.unit (s := S8x4096) o S1x16.size h).toLoadRect f k)) Finset.univ)
      = rowUpd T r c f := by
  subst ho
  funext j
  unfold rowUpd
  by_cases hj : j ∈ (Rect.unit (s := S8x4096) ![r, c] S1x16.size h).set
  · have hm := hj
    rw [← Rect.map_emb_univ] at hm
    obtain ⟨k, -, rfl⟩ := Finset.mem_map.mp hm
    rw [if_pos]
    · exact View.write_emb_of_mem (Val := Elt F) (v := sX.access (Rect.unit (s := S8x4096) ![r, c] S1x16.size h)) f _ (Finset.mem_univ k)
    · have := Rect.mem_set_unit.mp hj
      have h0 : r ≤ ((Rect.unit (s := S8x4096) ![r, c] S1x16.size h).emb k 0).val ∧ ((Rect.unit (s := S8x4096) ![r, c] S1x16.size h).emb k 0).val < r + 1 := this 0
      have h1 : c ≤ ((Rect.unit (s := S8x4096) ![r, c] S1x16.size h).emb k 1).val ∧ ((Rect.unit (s := S8x4096) ![r, c] S1x16.size h).emb k 1).val < c + 16 := this 1
      exact ⟨by omega, h1⟩
  · rw [if_neg]
    · exact View.write_of_not_mem (Val := Elt F) (v := sX.access (Rect.unit (s := S8x4096) ![r, c] S1x16.size h)) f _ _ (by
        intro hc; apply hj
        obtain ⟨k, -, hk⟩ := Finset.mem_map.mp hc
        rw [← Rect.map_emb_univ]
        exact Finset.mem_map.mpr ⟨k, Finset.mem_univ k, hk⟩)
    · intro hc; apply hj
      rw [Rect.mem_set_unit]
      intro a; fin_cases a <;> simp <;> omega

section Rule
variable (d : Dev nD) (i : grid0.Coords)

abbrev thr : Thread nD τ := V d ((i 0).castLE hcore0) ((i 1).castLE hsub0)
abbrev sTLoc : Loc nD τ sig := (thr d i).loc cc0_scratch0
abbrev sXLoc : Loc nD τ sig := (thr d i).loc cc0_scratch1

theorem pts_row (T : Vec F S16 .f32) (r c : ℕ) (f : S8x4096.Idx → Elt F .f32) (o : Fin S8x4096.rank → ℕ) (ho : o = ![r, c])
    (h : ∀ a, o a + S1x16.size a ≤ S8x4096.size a) :
    ((sX.access (Rect.unit (s := S8x4096) o S1x16.size h)).loc (thr d i) ↦{fullShare}
      ((sX.access (Rect.unit (s := S8x4096) o S1x16.size h)).write (Elt F) f
        (shapeCast S1x16 (rowOut (v4T T) (sX.view.readAt (Elt F) (Rect.unit (s := S8x4096) o S1x16.size h).toLoadRect f)
          (got1 T (sX.view.readAt (Elt F) (Rect.unit (s := S8x4096) o S1x16.size h).toLoadRect f))
          (got2 T (sX.view.readAt (Elt F) (Rect.unit (s := S8x4096) o S1x16.size h).toLoadRect f))
          (got3 T (sX.view.readAt (Elt F) (Rect.unit (s := S8x4096) o S1x16.size h).toLoadRect f))) shapeCasts_S16_S1x16) Finset.univ) : sProp 𝕄)
      = (sXLoc d i ↦{fullShare} rowUpd T r c f) := by
  rw [rowOut_eq]
  exact congrArg (fun g => (sXLoc d i ↦{fullShare} g : sProp 𝕄)) (store_eq T r c f o ho h)

/-- One row of a step: the tile's rows before and after. -/
theorem wp_row {α : Type} (T : Vec F S16 .f32) (f : S8x4096.Idx → Elt F .f32) (r c : ℕ) (oL oS : Fin S8x4096.rank → ℕ) (hoL : oL = ![r, c]) (hoS : oS = ![r, c])
    (hL : ∀ a, oL a + S1x16.size a ≤ S8x4096.size a) (hS : ∀ a, oS a + S1x16.size a ≤ S8x4096.size a)
    (k : Unit → Prog (TpuEff nD τ sig (Elt F) Λ₀ (.scVector ((i 0).castLE hcore0) ((i 1).castLE hsub0))) α) (Q : α → sProp 𝕄) :
    iprop((sXLoc d i ↦{fullShare} f) ∗ (sTLoc d i ↦{fullShare} T)
        ∗ ((sXLoc d i ↦{fullShare} rowUpd T r c f) ∗ (sTLoc d i ↦{fullShare} T) -∗ wp frame (wpE (defs₀ (F := F)) 𝒱₀ (thr d i) none) Set.univ (k ()) Q))
      ⊢ wp frame (wpE (defs₀ (F := F)) 𝒱₀ (thr d i) none) Set.univ (rowProg i sT sX (v4T T) oL oS hL hS >>= k) Q := by
  obtain rfl : oL = oS := hoL.trans hoS.symm
  unfold rowProg
  simp only [Prog.lift, Prog.bind_op, Prog.bind_ret, Prog.pure_eq_ret, Prog.bind_assoc]
  iintro ⟨HX, HT, Hk⟩
  iapply (wp_load 𝒱₀ (thr d i) none Set.univ (m := sX) (S := Finset.univ) (Finset.subset_univ _)) $$ HX; iintro HX
  rw [wp_assume_of _ _ _ _ (chk1 T _)]
  iapply (SparseCore.wp_vectorLoadIdx 𝒱₀ (thr d i) none Set.univ (base := sT) (S := Finset.univ) (q := fullShare) (Finset.subset_univ _)) $$ HT; iintro HT
  rw [got1_eq, wp_assume_of _ _ _ _ (chk2 T _)]
  iapply (SparseCore.wp_vectorLoadIdx 𝒱₀ (thr d i) none Set.univ (base := sT) (S := Finset.univ) (q := fullShare) (Finset.subset_univ _)) $$ HT; iintro HT
  rw [got2_eq, wp_assume_of _ _ _ _ (chk3 T _)]
  iapply (SparseCore.wp_vectorLoadIdx 𝒱₀ (thr d i) none Set.univ (base := sT) (S := Finset.univ) (q := fullShare) (Finset.subset_univ _)) $$ HT; iintro HT
  rw [got3_eq]
  iapply (wp_load 𝒱₀ (thr d i) none Set.univ (m := sX) (S := Finset.univ) (Finset.subset_univ _)) $$ HX; iintro HX
  iapply (wp_store 𝒱₀ (thr d i) none Set.univ (m := sX) (r := Rect.unit (s := S8x4096) oL S1x16.size hS) (Mk := Finset.univ) (S := Finset.univ) (Finset.subset_univ _)) $$ HX; iintro HX
  ihave HX' := (Entails.of_eq (pts_row d i T r c f oL hoL hS)) $$ HX
  iapply Hk
  isplitl [HX']
  · iexact HX'
  · iexact HT

/-- Rows below `r` looked up in the columns `c` to `c + 15`. -/
def upTo (T : Vec F S16 .f32) (r c : ℕ) (f : S8x4096.Idx → Elt F .f32) : S8x4096.Idx → Elt F .f32 :=
  fun j => if (j 0).val < r ∧ c ≤ (j 1).val ∧ (j 1).val < c + 16 then lane T (f j) else f j
/-- The columns below `c` looked up. -/
def doneTo (T : Vec F S16 .f32) (c : ℕ) (f : S8x4096.Idx → Elt F .f32) : S8x4096.Idx → Elt F .f32 :=
  fun j => if (j 1).val < c then lane T (f j) else f j

theorem rowUpd_upTo (T : Vec F S16 .f32) (r c : ℕ) (f : S8x4096.Idx → Elt F .f32) : rowUpd T r c (upTo T r c f) = upTo T (r + 1) c f := by
  funext j
  unfold rowUpd upTo
  by_cases h : (j 0).val < r
  · rw [if_neg (by omega)]
    exact if_congr ⟨fun ⟨h1, h2⟩ => ⟨by omega, h2⟩, fun ⟨h1, h2⟩ => ⟨by omega, h2⟩⟩ rfl rfl
  · rw [if_neg (c := (j 0).val < r ∧ _) (by omega)]
    exact if_congr ⟨fun ⟨h1, h2⟩ => ⟨by omega, h2⟩, fun ⟨h1, h2⟩ => ⟨by omega, h2⟩⟩ rfl rfl

theorem upTo_zero (T : Vec F S16 .f32) (c : ℕ) (f : S8x4096.Idx → Elt F .f32) : upTo T 0 c f = f := by
  funext j; exact if_neg (by omega)

theorem upTo_doneTo (T : Vec F S16 .f32) (c : ℕ) (f : S8x4096.Idx → Elt F .f32) : upTo T 8 c (doneTo T c f) = doneTo T (c + 16) f := by
  funext j
  have h0 : (j 0).val < 8 := (j 0).isLt
  unfold upTo doneTo
  by_cases h : (j 1).val < c
  · rw [if_neg (by omega), if_pos h, if_pos (by omega)]
  · rw [if_neg (c := (j 1).val < c) h]
    exact if_congr ⟨fun ⟨_, _, h2⟩ => h2, fun h2 => ⟨h0, by omega, h2⟩⟩ rfl rfl

theorem doneTo_zero (T : Vec F S16 .f32) (f : S8x4096.Idx → Elt F .f32) : doneTo T 0 f = f := by
  funext j; exact if_neg (by omega)
theorem doneTo_all (T : Vec F S16 .f32) (f : S8x4096.Idx → Elt F .f32) : doneTo T 4096 f = fun j => lane T (f j) := by
  funext j; exact if_pos (j 1).isLt

theorem wp_row_next {α : Type} (T : Vec F S16 .f32) (f : S8x4096.Idx → Elt F .f32) (r c : ℕ) (oL oS : Fin S8x4096.rank → ℕ) (hoL : oL = ![r, c]) (hoS : oS = ![r, c])
    (hL : ∀ a, oL a + S1x16.size a ≤ S8x4096.size a) (hS : ∀ a, oS a + S1x16.size a ≤ S8x4096.size a)
    (k : Unit → Prog (TpuEff nD τ sig (Elt F) Λ₀ (.scVector ((i 0).castLE hcore0) ((i 1).castLE hsub0))) α) (Q : α → sProp 𝕄)
    (hk : iprop((sXLoc d i ↦{fullShare} upTo T (r + 1) c f) ∗ (sTLoc d i ↦{fullShare} T)) ⊢ wp frame (wpE (defs₀ (F := F)) 𝒱₀ (thr d i) none) Set.univ (k ()) Q) :
    iprop((sXLoc d i ↦{fullShare} upTo T r c f) ∗ (sTLoc d i ↦{fullShare} T))
      ⊢ wp frame (wpE (defs₀ (F := F)) 𝒱₀ (thr d i) none) Set.univ (rowProg i sT sX (v4T T) oL oS hL hS >>= k) Q := by
  iintro ⟨HX, HT⟩
  iapply (wp_row d i T (upTo T r c f) r c oL oS hoL hoS hL hS k Q)
  isplitl [HX]; · iexact HX
  isplitl [HT]; · iexact HT
  rw [rowUpd_upTo]
  iintro H
  iapply hk
  iexact H

/-- The column a trip starts at. -/
theorem col_eq (t : Fin k0_t1_loop.trips) :
    (Scalar.indexCast (Scalar.addi 0#32 (Scalar.muli (Scf.iv 0#32 1#32 t) 16#32))).toNat = 16 * t.val := by
  decide +revert

theorem off_eq {r : ℕ} {o : Fin k0_t1_loop.trips → Fin 2 → ℕ} (t : Fin k0_t1_loop.trips)
    (h : o t = ![r, (Scalar.indexCast (Scalar.addi 0#32 (Scalar.muli (Scf.iv 0#32 1#32 t) 16#32))).toNat]) : o t = ![r, 16 * t.val] := by
  rw [h, col_eq]

/-- One trip of the tile's loop. -/
theorem wp_trip (arg2 : Memref sig .scVector .hbm S8192x4096 .f32) (harg2 : arg2.IsWhole)
    (arg3 : Memref sig .scVector .hbm S16 .f32) (harg3 : arg3.IsWhole) (arg4 : Memref sig .scVector .hbm S256x4096 .f32) (harg4 : arg4.IsWhole)
    (harg5 : sT.IsWhole) (harg6 : sX.IsWhole)
    (arg7 : Memref sig .scVector .vmem S8x4096 .f32) (harg7 : arg7.IsWhole) (arg8 arg9 arg10 arg11 r0 : DmaSems sig S_)
    (T : Vec F S16 .f32) (f : S8x4096.Idx → Elt F .f32) (t : Fin k0_t1_loop.trips) :
    (iprop((sXLoc d i ↦{fullShare} doneTo T (16 * t.val) f) ∗ (sTLoc d i ↦{fullShare} T)) : sProp 𝕄)
      ⊢ wp frame (wpE (defs₀ (F := F)) 𝒱₀ (thr d i) none) Set.univ
          (k0_t1_body (F := F) i arg2 harg2 arg3 harg3 arg4 harg4 sT harg5 sX harg6 arg7 harg7 arg8 arg9 arg10 arg11 r0 (v4T T) t ())
          fun _ => iprop((sXLoc d i ↦{fullShare} doneTo T (16 * (t.val + 1)) f) ∗ (sTLoc d i ↦{fullShare} T)) := by
  rw [body_eq]
  refine BI.Entails.trans (Entails.of_eq (congrArg (fun g => (iprop((sXLoc d i ↦{fullShare} g) ∗ (sTLoc d i ↦{fullShare} T)) : sProp 𝕄))
      (upTo_zero T (16 * t.val) (doneTo T (16 * t.val) f)).symm))
    (wp_row_next d i T (doneTo T (16 * t.val) f) 0 (16 * t.val) _ _ (off_eq t rfl) (off_eq t rfl) _ _ _ _ ?_)
  refine wp_row_next d i T _ 1 (16 * t.val) _ _ (off_eq t rfl) (off_eq t rfl) _ _ _ _ ?_
  refine wp_row_next d i T _ 2 (16 * t.val) _ _ (off_eq t rfl) (off_eq t rfl) _ _ _ _ ?_
  refine wp_row_next d i T _ 3 (16 * t.val) _ _ (off_eq t rfl) (off_eq t rfl) _ _ _ _ ?_
  refine wp_row_next d i T _ 4 (16 * t.val) _ _ (off_eq t rfl) (off_eq t rfl) _ _ _ _ ?_
  refine wp_row_next d i T _ 5 (16 * t.val) _ _ (off_eq t rfl) (off_eq t rfl) _ _ _ _ ?_
  refine wp_row_next d i T _ 6 (16 * t.val) _ _ (off_eq t rfl) (off_eq t rfl) _ _ _ _ ?_
  rw [← bind_pure (rowProg i sT sX (v4T T) _ _ _ _)]
  refine wp_row_next d i T _ 7 (16 * t.val) _ _ (off_eq t rfl) (off_eq t rfl) _ _ _ _ ?_
  rw [upTo_doneTo, Prog.pure_eq_ret, wp_ret]
  iintro H; imodintro; iexact H

end Rule

end Cert.Proof
-- ==== Proof.Task.lean ====
module

/- One vector subcore's task whole: the fetches, the loop, the write-out. -/

public import proofs.«01_k».proof.Proof.Tile
public import Idealize.ShloMosaic.Lib.ViewIndex

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ
local notation "xV" => (Memref.whole Cert.KernelIdeal.main_arg0_scv : Memref Cert.KernelIdeal.sig Kind.scVector Space.hbm Cert.KernelIdeal.S8192x4096 EltTy.f32)
local notation "wV" => (Memref.whole Cert.KernelIdeal.main_v1_scv : Memref Cert.KernelIdeal.sig Kind.scVector Space.hbm Cert.KernelIdeal.S16 EltTy.f32)
local notation "oV" => (Memref.whole Cert.KernelIdeal.main_v2_scv : Memref Cert.KernelIdeal.sig Kind.scVector Space.hbm Cert.KernelIdeal.S256x4096 EltTy.f32)
local notation "tM" => (Memref.whole Cert.KernelIdeal.cc0_scratch0 : Memref Cert.KernelIdeal.sig Kind.scVector Space.vmem Cert.KernelIdeal.S16 EltTy.f32)
local notation "xM" => (Memref.whole Cert.KernelIdeal.cc0_scratch1 : Memref Cert.KernelIdeal.sig Kind.scVector Space.vmem Cert.KernelIdeal.S8x4096 EltTy.f32)

abbrev xLoc (d : Dev nD) : Loc nD τ sig := (SparseCore.T d).loc main_arg0
abbrev wLoc (d : Dev nD) : Loc nD τ sig := (SparseCore.T d).loc main_v1
abbrev oLoc (d : Dev nD) : Loc nD τ sig := (SparseCore.T d).loc main_v2

/-- The index of `x` a row of the vector subcores' block names. -/
def upRow (j : S256x4096.Idx) : S8192x4096.Idx := fun a => ⟨(j a).val, (j a).isLt.trans_le (by revert a; decide)⟩
/-- What the vector subcores leave in their block, from `x` and the table. -/
def scOut (T : Vec F S16 .f32) (x : S8192x4096.Idx → Elt F .f32) : S256x4096.Idx → Elt F .f32 := fun j => lane T (x (upRow j))

/-- The rows task `(c, s)` writes. -/
def taskSet (c s : ℕ) : Finset S256x4096.Idx := Finset.univ.filter fun j => (j 0).val / 8 = 2 * s + c

section Body
variable (d : Dev nD) (i : grid0.Coords)

abbrev cellT : GSem nD τ sig := (thr d i, .dma cc0_scoped0.sem)
abbrev cellX : GSem nD τ sig := (thr d i, .dma cc0_scratch3.sem)
abbrev cellO : GSem nD τ sig := (thr d i, .dma cc0_scratch5.sem)

omit [FloatOps F] in
theorem ownSems0_thr :
    (ownSems0 (thr d i) : sProp 𝕄)
      = iprop(semVal (cellT d i) 0 ∗ semVal (cellX d i) 0 ∗ semVal (cellO d i) 0
          ∗ bigSep ((((ownCells (thr d i)).erase (cellT d i)).erase (cellX d i)).erase (cellO d i)) fun g => semVal g 0) := by
  unfold SparseCore.Cfg.ownSems0
  rw [SparseCore.bigSep_erase' ((mem_ownCells (g := cellT d i)).mpr ⟨rfl, by
      show (SemLoc.dma cc0_scoped0.sem : SemLoc sig).isScoped .scVector = true; decide⟩),
    SparseCore.bigSep_erase' (Finset.mem_erase.mpr ⟨by simp [cellT, cellX]; decide, (mem_ownCells (g := cellX d i)).mpr ⟨rfl, by
      show (SemLoc.dma cc0_scratch3.sem : SemLoc sig).isScoped .scVector = true; decide⟩⟩),
    SparseCore.bigSep_erase' (Finset.mem_erase.mpr ⟨by simp [cellX, cellO]; decide, Finset.mem_erase.mpr ⟨by simp [cellT, cellO]; decide,
      (mem_ownCells (g := cellO d i)).mpr ⟨rfl, by show (SemLoc.dma cc0_scratch5.sem : SemLoc sig).isScoped .scVector = true; decide⟩⟩⟩)]

omit [FloatOps F] in
theorem ownBufs_thr :
    (ownBufs (thr d i) : sProp 𝕄)
      = iprop((∃ f, sTLoc d i ↦{fullShare} f) ∗ (∃ f, sXLoc d i ↦{fullShare} f)
          ∗ bigSep (((ownRefs (τ := τ) (thr d i).2).erase ((thr d i).2.devRef cc0_scratch0)).erase ((thr d i).2.devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := (thr d i).2) (b := (thr d i).2.devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := (thr d i).2) (b := (thr d i).2.devRef cc0_scratch1) rfl⟩)]

/-- A task's eight rows of the block, as its write-out slices them. -/
abbrev oSlice : Memref sig .scVector .hbm S8x4096 .f32 := (oV).slice (Rect.unit (s := S256x4096) (k0_off18 i) S8x4096.size (k0_off18_inb i)) (fun _ => rfl)
abbrev xSlice : Memref sig .scVector .hbm S8x4096 .f32 := (xV).slice (Rect.unit (s := S8192x4096) (k0_off1 i) S8x4096.size (k0_off1_inb i)) (fun _ => rfl)

theorem off1_eq : k0_off1 i = ![8 * (2 * (i 1).val + (i 0).val), 0] := by
  have h0 : (i 0).val < 2 := (i 0).isLt
  have h1 : (i 1).val < 16 := (i 1).isLt
  unfold k0_off1
  show ![(Scalar.indexCast (Scalar.addi (Scalar.muli (Scalar.addi (Scalar.muli (BitVec.ofNat 32 (i 1).val) 2#32) (BitVec.ofNat 32 (i 0).val)) 8#32) 0#32)).toNat, 0] = _
  generalize (i 0).val = a at *
  generalize (i 1).val = b at *
  congr 1
  interval_cases a <;> interval_cases b <;> rfl
theorem off18_eq : k0_off18 i = ![8 * (2 * (i 1).val + (i 0).val), 0] := off1_eq i

theorem oSlice_set : (oSlice i).view.set = taskSet (i 0).val (i 1).val := by
  ext j
  rw [taskSet, Finset.mem_filter, View.set_slice_whole, Rect.mem_set_unit, off18_eq]
  have h1 : (j 1).val < 4096 := (j 1).isLt
  constructor
  · intro h
    have h0 : 8 * (2 * (i 1).val + (i 0).val) ≤ (j 0).val ∧ (j 0).val < 8 * (2 * (i 1).val + (i 0).val) + 8 := h 0
    exact ⟨Finset.mem_univ _, by omega⟩
  · intro h a
    have h0 := h.2
    fin_cases a
    · show 8 * (2 * (i 1).val + (i 0).val) ≤ (j 0).val ∧ (j 0).val < 8 * (2 * (i 1).val + (i 0).val) + 8
      omega
    · show 0 ≤ (j 1).val ∧ (j 1).val < 0 + 4096
      omega

omit [FloatOps F] in
theorem table_lands (ft T : Vec F S16 .f32) :
    (tM).view.write (Elt F) ft ((wV).view.read (Elt F) T) Finset.univ = T := View.write_whole_univ _ _ _

theorem v4_eq (T : Vec F S16 .f32) (v : IVec S16 32) (hv : v = broadcast S16 7#32) (h) :
    loadIdx (F := F) (s := S16) (t := S16) (e := .f32) ((sT.access (Rect.whole S16)).read (Elt F) T) ![v] h = v4T T := by
  subst hv; rw [read_sT]; exact loadIdx_tab T _ h

/-- The task's eight rows of `x`, as fetched. -/
def rows (x : S8192x4096.Idx → Elt F .f32) : S8x4096.Idx → Elt F .f32 := (xSlice i).view.read (Elt F) x

theorem rows_land (fx r : S8x4096.Idx → Elt F .f32) : (xM).view.write (Elt F) fx r Finset.univ = r := View.write_whole_univ _ _ _

omit [FloatOps F] in
/-- The waits the task records are its own transfers', at no call. -/
theorem waits_none (a b c : SemLoc sig) (W : Waits sig (HIx 1)) :
    ∀ p ∈ insert (a, (default : HIx 1)) (insert (b, (default : HIx 1)) (insert (c, (default : HIx 1)) W)), p ∈ W ∨ p.2 = none := by
  intro p hp
  simp only [Finset.mem_insert] at hp
  rcases hp with rfl | rfl | rfl | hp
  · exact .inr rfl
  · exact .inr rfl
  · exact .inr rfl
  · exact .inl hp

omit [FloatOps F] in
/-- A task's rows of the block are its rows of `x`. -/
theorem upRow_emb (k : S8x4096.Idx) :
    upRow ((Rect.unit (s := S256x4096) (k0_off18 i) S8x4096.size (k0_off18_inb i)).emb k)
      = (Rect.unit (s := S8192x4096) (k0_off1 i) S8x4096.size (k0_off1_inb i)).emb k := by
  funext a
  refine Fin.ext ?_
  refine (ValueKit.rect_emb_unit_val (s := S256x4096) (k0_off18 i) S8x4096.size (k0_off18_inb i) k a).trans ?_
  exact (ValueKit.rect_emb_unit_val (s := S8192x4096) (k0_off1 i) S8x4096.size (k0_off1_inb i) k a).symm

theorem rows_apply (x : S8192x4096.Idx → Elt F .f32) (k : S8x4096.Idx) :
    rows i x k = x ((Rect.unit (s := S8192x4096) (k0_off1 i) S8x4096.size (k0_off1_inb i)).emb k) := rfl

/-- The written block's rows are the looked-up rows. -/
theorem out_lands (x : S8192x4096.Idx → Elt F .f32) (T : Vec F S16 .f32) (f : S256x4096.Idx → Elt F .f32) (w : S8x4096.Idx → Elt F .f32)
    (hw : w = fun k => lane T (rows i x k)) (j : S256x4096.Idx) (hj : j ∈ (oSlice i).view.set) :
    (oSlice i).view.writes (Elt F) f [⟨Rect.whole S8x4096, w⟩] j = scOut T x j := by
  have hj' : j ∈ (Rect.unit (s := S256x4096) (k0_off18 i) S8x4096.size (k0_off18_inb i)).set := by
    rw [View.set_slice_whole] at hj; exact hj
  rw [← Rect.map_emb_univ] at hj'
  obtain ⟨k, -, hk⟩ := Finset.mem_map.mp hj'
  have e1 : (oSlice i).view.writes (Elt F) f [⟨Rect.whole S8x4096, w⟩] ((oSlice i).view.emb ((Rect.whole S8x4096).emb k)) = w k := by
    exact View.write_emb_of_mem (Val := Elt F) (v := (oSlice i).view.slice (Rect.whole S8x4096)) f w (Finset.mem_univ k)
  have e2 : (oSlice i).view.emb ((Rect.whole S8x4096).emb k) = j := by
    rw [Rect.emb_whole_apply]; exact hk
  rw [e2] at e1
  refine e1.trans ?_
  rw [hw]
  show lane T (rows i x k) = lane T (x (upRow j))
  rw [← hk, upRow_emb, rows_apply]

/-- The loop's invariant: the columns of the trips done are looked up. -/
def inv (T : Vec F S16 .f32) (x : S8192x4096.Idx → Elt F .f32) (k : Nat) (_ : PUnit) : sProp 𝕄 :=
  iprop((sXLoc d i ↦{fullShare} doneTo T (16 * k) (rows i x)) ∗ (sTLoc d i ↦{fullShare} T))

set_option maxHeartbeats 2000000 in
theorem tile_body (hF : (K (F := F)).Facts) (x : S8192x4096.Idx → Elt F .f32) (T : Vec F S16 .f32) (qx qw : PosShare TreeShare)
    (O : CellTallies nD τ sig (HIx 1)) (W : Waits sig (HIx 1)) (hO : ∀ g, O g none = 0) (f : S256x4096.Idx → Elt F .f32) :
    (iprop(levAts (K (F := F)).L (K (F := F)).lev
        ∗ ((xLoc d ↦{qx} x) ∗ (wLoc d ↦{qw} T) ∗ (oLoc d ↦[taskSet (i 0).val (i 1).val]{fullShare} f))
        ∗ scopedBufs (thr d i) ∗ scopedSems0 (thr d i) ∗ owes (thr d i) O W) : sProp 𝕄)
      ⊢ wp frame (wpE (defs₀ (F := F)) 𝒱₀ (thr d i) none) Set.univ
          (cc0_sc_k (F := F) i xV (Memref.isWhole_whole _) wV (Memref.isWhole_whole _) oV (Memref.isWhole_whole _)
            tM (Memref.isWhole_whole _) xM (Memref.isWhole_whole _) (Memref.whole cc0_scratch2) (Memref.isWhole_whole _)
            cc0_scratch3 cc0_scratch4 cc0_scratch5 cc0_scratch6 cc0_scoped0)
          fun _ => iprop(((xLoc d ↦{qx} x) ∗ (wLoc d ↦{qw} T) ∗ (oLoc d ↦[taskSet (i 0).val (i 1).val]{fullShare} scOut T x))
            ∗ scopedBufs (thr d i) ∗ scopedSems0 (thr d i)
            ∗ ∃ W', ⌜∀ p ∈ W', p ∈ W ∨ p.2 = none⌝ ∗ owes (thr d i) O W') := by
  simp only [cc0_sc_k_eq_skeleton]; unfold cc0_sc_k_skel
  rw [(K (F := F)).scopedBufs_V hF d _ _, SparseCore.Cfg.scopedSems0_V (Val := Elt F) d _ _, ownSems0_thr, ownBufs_thr, ← oSlice_set i]
  iintro ⟨#Hlv, ⟨Hx, Hw, Ho⟩, ⟨⟨%ft, Ht⟩, ⟨%fx, HX⟩, Hbufs⟩, ⟨HsT, HsX, HsO, Hsems⟩, HO⟩
  ihave Hmw := ((K (F := F)).mayWaits_none (thr := thr d i) hO) $$ Hlv
  ihave Hx' := (Entails.of_eq (show (xLoc d ↦{qx} x : sProp 𝕄) = ((xV).view.loc (thr d i) ↦{qx} x) from rfl)) $$ Hx
  ihave Hw' := (Entails.of_eq (show (wLoc d ↦{qw} T : sProp 𝕄) = ((wV).view.loc (thr d i) ↦{qw} T) from rfl)) $$ Hw
  ihave Ht' := (Entails.of_eq (show (sTLoc d i ↦{fullShare} ft : sProp 𝕄) = ((tM).view.loc (thr d i) ↦{fullShare} ft) from rfl)) $$ Ht
  ihave HX' := (Entails.of_eq (show (sXLoc d i ↦{fullShare} fx : sProp 𝕄) = ((xM).view.loc (thr d i) ↦{fullShare} fx) from rfl)) $$ HX
  ihave Ho' := (Entails.of_eq (show (oLoc d ↦[(oSlice i).view.set]{fullShare} f : sProp 𝕄) = ((oSlice i).view.loc (thr d i) ↦[(oSlice i).view.set]{fullShare} f) from rfl)) $$ Ho
  sl_exec
  ihave HT := (Entails.of_eq (show ((tM).view.loc (thr d i) ↦{fullShare} (tM).view.write (Elt F) ft (tile_body.sl.dma0 T) Finset.univ : sProp 𝕄)
    = ((sT.access (Rect.whole S16)).loc (thr d i) ↦{fullShare} T) by rw [show tile_body.sl.dma0 T = (wV).view.read (Elt F) T from rfl, table_lands])) $$ Ht'
  iapply (SparseCore.wp_vectorLoadIdx 𝒱₀ (thr d i) none Set.univ (base := sT) (S := Finset.univ) (q := fullShare) (Finset.subset_univ _)) $$ HT; iintro HT
  rw [v4_eq T tile_body.sl.v3 rfl]
  sl_exec
  sl_for (inv d i T x) $$ [HX' HT]
  case region =>
    intro k _
    unfold inv
    exact wp_trip d i _ _ _ _ _ _ _ _ _ _ _ _ _ _ _ T (rows i x) k
  · unfold inv
    isplitl [HX']
    · iapply (Entails.of_eq (show ((xM).view.loc (thr d i) ↦{fullShare} (xM).view.write (Elt F) fx (tile_body.sl.dma0_1 i x) Finset.univ : sProp 𝕄)
        = (sXLoc d i ↦{fullShare} doneTo T (16 * 0) (rows i x)) by
          rw [show tile_body.sl.dma0_1 i x = rows i x from rfl, rows_land, Nat.mul_zero, doneTo_zero]))
      iexact HX'
    · iexact HT
  iintro %_ HI
  unfold inv
  icases HI with ⟨HX, HT⟩
  ihave HX' := (Entails.of_eq (show (sXLoc d i ↦{fullShare} doneTo T (16 * Scf.trips k0_t1_loop.lb k0_t1_loop.ub k0_t1_loop.st) (rows i x) : sProp 𝕄)
    = ((xM).view.loc (thr d i) ↦{fullShare} fun j => lane T (rows i x j)) from
      congrArg (fun g => (sXLoc d i ↦{fullShare} g : sProp 𝕄)) (doneTo_all T (rows i x)))) $$ HX
  sl_exec
  sl_step
  isplitl [Hx' Hw' Ho']
  · isplitl [Hx']; · iexact Hx'
    isplitl [Hw']; · iexact Hw'
    iapply (Entails.of_eq (show ((oSlice i).view.loc (thr d i) ↦[(oSlice i).view.set]{fullShare}
        (oSlice i).view.writes (Elt F) f [⟨Rect.whole S8x4096, tile_body.sl.dma0_2 d i x T⟩] : sProp 𝕄)
      = (oLoc d ↦[(oSlice i).view.set]{fullShare} scOut T x) from pointsTo_congr fun j hj => out_lands i x T f _ rfl j hj))
    iexact Ho'
  isplitl [HT HX' Hbufs]
  · isplitl [HT]; · iexists _; iexact HT
    isplitl [HX']; · iexists _; iexact HX'
    iexact Hbufs
  isplitl [HsT HsX HsO Hsems]
  · isplitl [HsT]; · iexact HsT
    isplitl [HsX]; · iexact HsX
    isplitl [HsO]; · iexact HsO
    iexact Hsems
  iexists (insert (SemLoc.dma cc0_scratch5.sem, default) (insert (SemLoc.dma cc0_scratch3.sem, default) (insert (SemLoc.dma cc0_scoped0.sem, default) W))); isplitr
  · ipureintro
    exact waits_none _ _ _ W
  · iexact HO
end Body

end Cert.Proof
-- ==== Proof.Launch.lean ====
module

/- What the SparseCore call hands each vector subcore and takes back, and the call's obligations. -/

public import proofs.«01_k».proof.Proof.Task

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.ShloMosaic.Transfers (shareTok shareTokN shareDrop pointsTo_toks_split pointsTo_toks_join)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The sixteen-entry table of fifteen thresholds: the last one twice. -/
def table (w : S15.Idx → Elt F .f32) : Vec F S16 .f32 :=
  concatenate S16 0 [⟨S15, w⟩, ⟨S1, extractStridedSlice S1 ![14] w slices_S15_S1_14⟩] concatenates_S15_S1_S16_d0

variable (m : (ℓ : Loc nD τ sig) → Buf (Elt F) ℓ)

abbrev aLoc (d : Dev nD) : Loc nD τ sig := (SparseCore.T d).loc main_arg1
abbrev xs (d : Dev nD) : S8192x4096.Idx → Elt F .f32 := m (xLoc d)
abbrev tbl (d : Dev nD) : Vec F S16 .f32 := table (m (aLoc d))
/-- What the call leaves in the vector subcores' block. -/
abbrev blk (d : Dev nD) : S256x4096.Idx → Elt F .f32 := scOut (tbl m d) (xs m d)

/-! ## The payloads -/

/-- Core `c`'s and task `(c, s)`'s share of an array every task reads. -/
abbrev coreShare (c : ℕ) : PosShare TreeShare := shareTokN fullShare c
abbrev taskShare (c s : ℕ) : PosShare TreeShare := shareTokN (coreShare c) s

/-- A task's payload, its rows of the block at `f`. -/
def taskPts (d : Dev nD) (f : S256x4096.Idx → Elt F .f32) (c s : ℕ) : sProp 𝕄 :=
  iprop((xLoc d ↦{taskShare c s} xs m d) ∗ (wLoc d ↦{taskShare c s} tbl m d) ∗ (oLoc d ↦[taskSet c s]{fullShare} f))
/-- A SparseCore's payload, its tasks' rows of the block at `f`. -/
def corePts (d : Dev nD) (f : S256x4096.Idx → Elt F .f32) (c : ℕ) : sProp 𝕄 :=
  iprop((xLoc d ↦{coreShare c} xs m d) ∗ (wLoc d ↦{coreShare c} tbl m d)
    ∗ bigSep Finset.univ fun s : Fin 16 => (oLoc d ↦[taskSet c s.val]{fullShare} f))

instance taskPts_storable (d : Dev nD) (f) (c s : ℕ) : BI.Storable (upEmb : UEmb _ 𝕄) (taskPts m d f c s) := by
  unfold taskPts; infer_instance
instance corePts_storable (d : Dev nD) (f) (c : ℕ) : BI.Storable (upEmb : UEmb _ 𝕄) (corePts m d f c) := by
  unfold corePts; infer_instance

def P : (K (F := F)).Pay (nD := nD) (Val := Elt F) (Name := ℕ) (U := UU) where
  st := fun _ d c => corePts m d (m (oLoc d)) c.val
  dn := fun _ d c => corePts m d (blk m d) c.val
  go := fun _ d c s => taskPts m d (m (oLoc d)) c.val s.val
  td := fun _ d c s => taskPts m d (blk m d) c.val s.val
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The tiles -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc_k (coordsV c s)
          (Memref.whole main_arg0_scv) (Memref.isWhole_whole _) (Memref.whole main_v1_scv) (Memref.isWhole_whole _) (Memref.whole main_v2_scv) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
theorem drop_emp {A B : sProp 𝕄} : iprop(A ∗ emp ∗ B) ⊢ iprop(A ∗ B) := by
  iintro ⟨HA, -, HB⟩; isplitl [HA] <;> iassumption

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact drop_emp.trans ((tile_body d (coordsV ⟨_, hc.1⟩ ⟨_, hc.2⟩) hF (xs m d) (tbl m d) (taskShare c.val i.val) (taskShare c.val i.val) O W hO (m (oLoc d))).trans
    (wp_mono frame _ _ fun _ => obl_post))

/-! ## Dealing the payloads -/

/-- The rows SparseCore `c`'s tasks write. -/
def coreSet (c : ℕ) : Finset S256x4096.Idx := Finset.univ.filter fun j => (j 0).val / 8 % 2 = c

theorem tasks_cover (c : ℕ) (hc : c < 2) : (Finset.univ : Finset (Fin 16)).biUnion (fun s => taskSet c s.val) = coreSet c := by
  ext j
  have h0 : (j 0).val < 256 := (j 0).isLt
  simp only [Finset.mem_biUnion, taskSet, coreSet, Finset.mem_filter, Finset.mem_univ, true_and]
  constructor
  · rintro ⟨s, h⟩; omega
  · intro h; exact ⟨⟨(j 0).val / 16, by omega⟩, by show (j 0).val / 8 = 2 * ((j 0).val / 16) + c; omega⟩
theorem cores_cover : (Finset.univ : Finset (Fin 2)).biUnion (fun c => coreSet c.val) = Finset.univ := by
  ext j
  simp only [Finset.mem_biUnion, coreSet, Finset.mem_filter, Finset.mem_univ, true_and, iff_true]
  exact ⟨⟨(j 0).val / 8 % 2, by omega⟩, rfl⟩
theorem tasks_disjoint (c : ℕ) : ∀ i ∈ (Finset.univ : Finset (Fin 16)), ∀ j ∈ (Finset.univ : Finset (Fin 16)), i ≠ j → Disjoint (taskSet c i.val) (taskSet c j.val) :=
  fun i _ j _ h => Finset.disjoint_left.mpr fun y h1 h2 => h (Fin.ext (by
    have e1 := (Finset.mem_filter.mp h1).2; have e2 := (Finset.mem_filter.mp h2).2; omega))
theorem cores_disjoint : ∀ i ∈ (Finset.univ : Finset (Fin 2)), ∀ j ∈ (Finset.univ : Finset (Fin 2)), i ≠ j → Disjoint (coreSet i.val) (coreSet j.val) :=
  fun i _ j _ h => Finset.disjoint_left.mpr fun y h1 h2 => h (Fin.ext (by
    have e1 := (Finset.mem_filter.mp h1).2; have e2 := (Finset.mem_filter.mp h2).2; omega))

omit [FloatOps F] in
/-- The block whole is the tasks' rows. -/
theorem block_rows (d : Dev nD) (f : S256x4096.Idx → Elt F .f32) :
    (oLoc d ↦{fullShare} f : sProp 𝕄)
      = bigSep Finset.univ fun c : Fin 2 => bigSep Finset.univ fun s : Fin 16 => oLoc d ↦[taskSet c.val s.val]{fullShare} f := by
  rw [bigSep_congr fun (c : Fin 2) _ => (pointsTo_biUnion Finset.univ (ℓ := oLoc d) (fun s : Fin 16 => taskSet c.val s.val) (tasks_disjoint c.val)).symm,
    bigSep_congr fun (c : Fin 2) _ => congrArg (fun s => (oLoc d ↦[s]{fullShare} f : sProp 𝕄)) (tasks_cover c.val c.isLt),
    ← pointsTo_biUnion Finset.univ (ℓ := oLoc d) (fun c : Fin 2 => coreSet c.val) cores_disjoint, cores_cover]

theorem corePts_deal (d : Dev nD) (f g : S256x4096.Idx → Elt F .f32) (c : ℕ) :
    corePts m d f c ⊢ iprop((bigSep Finset.univ fun s : Fin 16 => taskPts m d f c s.val)
      ∗ ((bigSep Finset.univ fun s : Fin 16 => taskPts m d g c s.val) -∗ corePts m d g c)) := by
  unfold corePts taskPts
  rw [bigSep_sep', bigSep_sep', bigSep_sep', bigSep_sep']
  iintro ⟨Hx, Hw, Ho⟩
  ihave Hx' := (pointsTo_toks_split (coreShare c) 16) $$ Hx
  ihave Hw' := (pointsTo_toks_split (coreShare c) 16) $$ Hw
  icases Hx' with ⟨Hxd, Hx⟩
  icases Hw' with ⟨Hwd, Hw⟩
  isplitl [Hx Hw Ho]
  · isplitl [Hx]; · iexact Hx
    isplitl [Hw]; · iexact Hw
    iexact Ho
  iintro ⟨Hx, Hw, Ho⟩
  isplitl [Hx Hxd]
  · iapply (pointsTo_toks_join (coreShare c) 16); isplitl [Hxd] <;> iassumption
  isplitl [Hw Hwd]
  · iapply (pointsTo_toks_join (coreShare c) 16); isplitl [Hwd] <;> iassumption
  iexact Ho

theorem vecSplit : (K (F := F)).VecSplit' (P m) 0 := by
  intro d c
  show (corePts m d (m (oLoc d)) c.val : sProp 𝕄) ⊢ |={Set.univ}=> iprop((bigSep Finset.univ fun s : Fin 16 => taskPts m d (m (oLoc d)) c.val s.val)
    ∗ ((bigSep Finset.univ fun s : Fin 16 => taskPts m d (blk m d) c.val s.val) -∗ corePts m d (blk m d) c.val))
  refine (corePts_deal m d (m (oLoc d)) (blk m d) c.val).trans ?_
  iintro H; imodintro; iexact H

/-- What the TensorCore hands over for the call, and takes back. -/
theorem call_deal (d : Dev nD) (f g : S256x4096.Idx → Elt F .f32) :
    (iprop((xLoc d ↦{fullShare} xs m d) ∗ (wLoc d ↦{fullShare} tbl m d) ∗ (oLoc d ↦{fullShare} f)) : sProp 𝕄)
      ⊢ iprop((bigSep Finset.univ fun c : Fin 2 => corePts m d f c.val)
        ∗ ((bigSep Finset.univ fun c : Fin 2 => corePts m d g c.val)
          -∗ ((xLoc d ↦{fullShare} xs m d) ∗ (wLoc d ↦{fullShare} tbl m d) ∗ (oLoc d ↦{fullShare} g)))) := by
  unfold corePts
  rw [bigSep_sep', bigSep_sep', bigSep_sep', bigSep_sep', block_rows, block_rows]
  iintro ⟨Hx, Hw, Ho⟩
  ihave Hx' := (pointsTo_toks_split fullShare 2) $$ Hx
  ihave Hw' := (pointsTo_toks_split fullShare 2) $$ Hw
  icases Hx' with ⟨Hxd, Hx⟩
  icases Hw' with ⟨Hwd, Hw⟩
  isplitl [Hx Hw Ho]
  · isplitl [Hx]; · iexact Hx
    isplitl [Hw]; · iexact Hw
    iexact Ho
  iintro ⟨Hx, Hw, Ho⟩
  isplitl [Hx Hxd]
  · iapply (pointsTo_toks_join fullShare 2); isplitl [Hxd] <;> iassumption
  isplitl [Hw Hwd]
  · iapply (pointsTo_toks_join fullShare 2); isplitl [Hwd] <;> iassumption
  iexact Ho

end Cert.Proof
-- ==== Proof.Body.lean ====
module

/- The TensorCore kernel's body: what it leaves for one element, and its run on whole staging buffers. -/

public import proofs.«01_k».proof.Proof.Setup
public import Idealize.ShloMosaic.Lib.Pipeline.FrameBody
public import Idealize.ShloMosaic.Lib.Pipeline.Value

@[expose] public section

noncomputable section

namespace Cert.Proof

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## One element -/

section Lane
variable (w : ℕ → F .f32) (a : F .f32)

/-- Whether `a` is above the first, second, third and fourth threshold it is compared with. -/
def bit1 : BitVec 1 := FloatOps.cmpf .ogt a (w 7)
def bit2 : BitVec 1 := FloatOps.cmpf .ogt a (Scalar.select (bit1 w a) (w 11) (w 3))
def bit3 : BitVec 1 :=
  FloatOps.cmpf .ogt a (Scalar.select (bit2 w a) (Scalar.select (bit1 w a) (w 13) (w 5)) (Scalar.select (bit1 w a) (w 9) (w 1)))
def bit4 : BitVec 1 :=
  FloatOps.cmpf .ogt a (Scalar.select (bit3 w a)
    (Scalar.select (bit2 w a) (Scalar.select (bit1 w a) (w 14) (w 6)) (Scalar.select (bit1 w a) (w 10) (w 2)))
    (Scalar.select (bit2 w a) (Scalar.select (bit1 w a) (w 12) (w 4)) (Scalar.select (bit1 w a) (w 8) (w 0))))
/-- What the TensorCore leaves for `a`. -/
def tcLane : F .f32 :=
  FloatOps.addf (FloatOps.addf (FloatOps.addf
    (Scalar.select (bit1 w a) (Scalar.ofBits .f32 0x00000000#32) (Scalar.ofBits .f32 0xC1000000#32))
    (Scalar.select (bit2 w a) (Scalar.ofBits .f32 0x40800000#32) (Scalar.ofBits .f32 0x00000000#32)))
    (Scalar.select (bit3 w a) (Scalar.ofBits .f32 0x40000000#32) (Scalar.ofBits .f32 0x00000000#32)))
    (Scalar.select (bit4 w a) (Scalar.ofBits .f32 0x3F800000#32) (Scalar.ofBits .f32 0x00000000#32))
end Lane

/-- Entry `n` of the one row of thresholds. -/
def idxRow (n : ℕ) : S1x15.Idx := fun a => ⟨n % S1x15.size a, Nat.mod_lt _ (by revert a; decide)⟩
def thresholds (W : Vec F S1x15 .f32) (n : ℕ) : F .f32 := W (idxRow n)
/-- What the TensorCore's body leaves for a block. -/
def tcBlock (W : Vec F S1x15 .f32) (X : Vec F S256x4096 .f32) : Vec F S256x4096 .f32 := fun j => tcLane (thresholds W) (X j)

/-- The stored payload, from the loads. -/
theorem payload_eq (v0 : Vec F S256x4096 .f32) (w : ℕ → F .f32) :
    k1_pay1 v0 (w 0) (w 2) (w 4) (w 6) (w 8) (w 10) (w 12) (w 14) (k1_pay2 v0 (w 7)) (k1_pay3 v0 (w 3) (w 7) (w 11))
        (k1_pay4 v0 (w 5) (w 7) (w 13)) (k1_pay5 (w 9)) (k1_pay6 (w 1))
      = fun j => tcLane w (v0 j) := by
  funext j
  rfl

theorem load_threshold (M : Memref sig .tc .smem S1x15 .f32) (f : M.view.ty.Contents (Elt F)) (n : ℕ)
    (h : ∀ a, ![0, n] a + ![1, 1] a ≤ S1x15.size a) (h1) :
    M.view.readAt (Elt F) (Rect.unit (s := S1x15) ![0, n] ![1, 1] h).toLoadRect f (Shape.Idx.first h1) = thresholds (M.view.read (Elt F) f) n := by
  have hn : n + 1 ≤ 15 := h 1
  have h0 : (Shape.Idx.first h1 (0 : Fin 2)).val < 1 := (Shape.Idx.first h1 (0 : Fin 2)).isLt
  have h1' : (Shape.Idx.first h1 (1 : Fin 2)).val < 1 := (Shape.Idx.first h1 (1 : Fin 2)).isLt
  refine congrArg (M.view.read (Elt F) f) (Shape.idx_ext₂ ?_ ?_)
  · show 0 + 1 * (Shape.Idx.first h1 (0 : Fin 2)).val = n % 1; omega
  · show n + 1 * (Shape.Idx.first h1 (1 : Fin 2)).val = n % 15; omega

theorem zeros : (![0, 0] : Fin 2 → ℕ) = fun _ => 0 := funext fun a => by fin_cases a <;> rfl

theorem load_block (M : Memref sig .tc .vmem S256x4096 .f32) (f : M.view.ty.Contents (Elt F)) (h) :
    M.view.readAt (Elt F) (Rect.unit (s := S256x4096) ![0, 0] ![256, 4096] h).toLoadRect f = M.view.read (Elt F) f :=
  (View.readAt_eq_ld M.view f _).trans (View.ld_unit_zero zeros h _)

theorem store_block (M : Memref sig .tc .vmem S256x4096 .f32) (f : M.view.ty.Contents (Elt F)) (h) (w : Vec F S256x4096 .f32) :
    M.view.read (Elt F) (M.view.writes (Elt F) f [⟨Rect.unit (s := S256x4096) ![0, 0] S256x4096.size h, w⟩]) = w := by
  funext j
  have hj : (Rect.unit (s := S256x4096) ![0, 0] S256x4096.size h).emb j = j :=
    Shape.idx_ext₂ (by show 0 + 1 * (j 0).val = (j 0).val; omega) (by show 0 + 1 * (j 1).val = (j 1).val; omega)
  have := View.read_writes_cons_emb M.view f (Rect.unit (s := S256x4096) ![0, 0] S256x4096.size h) w [] j
  rwa [hj] at this

set_option maxHeartbeats 1000000 in
/-- The body on whole staging buffers: the thresholds' and the block's are read, the result's ends at `tcBlock`. -/
theorem body_run (c : Dev nD) (i : grid1.Coords) (arg1 : Memref sig .tc .smem S1x15 .f32) (harg1 : arg1.IsWhole)
    (arg2 : Memref sig .tc .vmem S256x4096 .f32) (harg2 : arg2.IsWhole) (arg3 : Memref sig .tc .vmem S256x4096 .f32) (harg3 : arg3.IsWhole)
    (W : Vec F S1x15 .f32) (X : Vec F S256x4096 .f32) (Q : PUnit → sProp 𝕄) :
    iprop(owns (c : Thread nD τ) arg1 fullShare W ∗ owns (c : Thread nD τ) arg2 fullShare X ∗ (∃ d, owns (c : Thread nD τ) arg3 fullShare d)
        ∗ (iprop(owns (c : Thread nD τ) arg1 fullShare W ∗ owns (c : Thread nD τ) arg2 fullShare X ∗ owns (c : Thread nD τ) arg3 fullShare (tcBlock W X)) -∗ Q ⟨⟩))
      ⊢ wp frame (wpE (defs₀ (F := F)) 𝒱₀ (c : Thread nD τ) none) Set.univ (cc1__tc_body i arg1 harg1 arg2 harg2 arg3 harg3) Q := by
  simp only [cc1__tc_body_eq_skeleton]; unfold cc1__tc_body_skel
  simp only [k1_part1_eq_skeleton]
  unfold owns
  iintro ⟨⟨%f1, %hf1, H1⟩, ⟨%f2, %hf2, H2⟩, ⟨%d, %f3, -, H3⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  unfold body_run.sl.r_16 body_run.sl.r_17 body_run.sl.r_18 body_run.sl.r_19 body_run.sl.r_20 body_run.sl.r_15 body_run.sl.r body_run.sl.r_1
    body_run.sl.r_2 body_run.sl.r_3 body_run.sl.r_4 body_run.sl.r_5 body_run.sl.r_6 body_run.sl.r_7 body_run.sl.r_8 body_run.sl.r_9
    body_run.sl.r_10 body_run.sl.r_11 body_run.sl.r_12 body_run.sl.r_13 body_run.sl.r_14
  simp only [load_threshold, load_block]
  rw [payload_eq (F := F) _ (thresholds (arg1.view.read (Elt F) f1))]
  exact store_block (F := F) arg3 _ _ _

end Cert.Proof
-- ==== Proof.Region.lean ====
module

/- The TensorCore's call: its proof data, the body's obligation at a point, what the call leaves, and its record. -/

public import proofs.«01_k».proof.Proof.Body
public import proofs.«01_k».proof.Proof.Launch
public import proofs.«01_k».proof.Proof.Gen.KernelIdeal.Launch
public import proofs.«01_k».proof.Proof.Gen.KernelIdeal.Points

@[expose] public section

noncomputable section

namespace Cert.Proof

open Cert.KernelIdeal Cert.KernelIdeal.Gen

open Idealize.ShloMosaic
open Idealize.ShloMosaic.TcCoe
open Idealize.ShloMosaic.SparseCore.Cfg (HIx)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (m : (ℓ : Loc nD τ sig) → Buf (Elt F) ℓ)

/-- The thresholds as one row. -/
def row (w : S15.Idx → Elt F .f32) : Vec F S1x15 .f32 := shapeCast S1x15 w shapeCasts_S15_S1x15

/-- The three arrays of the call as it finds them. -/
def entry (c : Dev nD) : (w : Fin cfg1.W) → Buf (Elt F) ((cfg1.win w).arr.view.loc (c.tc : Thread nD τ))
  | ⟨0, _⟩ => row (m (aLoc c))
  | ⟨1, _⟩ => xs m c
  | ⟨2, _⟩ => m ((c.tc : Thread nD τ).loc main_v4)

/-- The thresholds' and `x`'s block at a point. -/
def wBlk (c : Dev nD) (t : Fin cfg1.N) : Vec F S1x15 .f32 := ((cfg1.win 0).blk t).view.read (Elt F) (entry m c 0)
def xBlk (c : Dev nD) (t : Fin cfg1.N) : Vec F S256x4096 .f32 := ((cfg1.win 1).blk t).view.read (Elt F) (entry m c 1)

/-- The waits recorded by the end of the SparseCore call are below its last level. -/
def waited (c : Dev nD) : Set (SemLoc sig × HIx 1) := {p | (K (F := F)).lev ((c.tc : Thread nD τ), p.1) p.2 ≤ 8 * SparseCore.Cfg.Blocks.fst (Q := 1) (N := 1) 1}

def dat (c : Dev nD) : Dat τ (Elt F) (HIx 1) ℕ UU ℕ cfg1 c where
  A := entry m c
  after w t := match w with
    | ⟨0, _⟩ => wBlk m c t
    | ⟨1, _⟩ => xBlk m c t
    | ⟨2, _⟩ => tcBlock (wBlk m c t) (xBlk m c t)
  Φ _ := iprop(emp)
  q _ := fullShare
  owed _ := 0
  recorded _ := waited (F := F) c

abbrev adm : (p : Fin 1) → (pcfgs (F := F) p).Adm := fun p => (cfgs p).toPCfg_adm
def dats : (p : Fin 1) → (c : Dev nD) → Dat τ (Elt F) (HIx 1) ℕ UU ℕ (Pipeline.pin (pcfgs (F := F)) adm p) c := fun _ c => dat m c

theorem after_0 (c : Dev nD) (t : Fin cfg1.N) : (dat m c).after 0 t = wBlk m c t := by dsimp only [dat]
theorem after_1 (c : Dev nD) (t : Fin cfg1.N) : (dat m c).after 1 t = xBlk m c t := by dsimp only [dat]
theorem after_2 (c : Dev nD) (t : Fin cfg1.N) : (dat m c).after 2 t = tcBlock (wBlk m c t) (xBlk m c t) := by dsimp only [dat]
theorem A_eq (c : Dev nD) (w : Fin cfg1.W) : (dat m c).A w = entry m c w := by dsimp only [dat]

theorem before_0 (c : Dev nD) (t : Fin cfg1.N) (d) : (dat m c).before 0 t d = wBlk m c t :=
  ((dat m c).before_in_eq_fetched 0 rfl (fun _ => rfl) (fun _ _ _ => rfl) (fun t => by rw [after_0]; unfold Dat.blockOf wBlk; rw [A_eq]; try rfl) t d).trans
    (by unfold Dat.fetched Dat.blockOf wBlk; rw [A_eq]; try rfl)
theorem before_1 (c : Dev nD) (t : Fin cfg1.N) (d) : (dat m c).before 1 t d = xBlk m c t :=
  ((dat m c).before_in_eq_fetched 1 rfl (fun _ => rfl) (fun _ _ _ => rfl) (fun t => by rw [after_1]; unfold Dat.blockOf xBlk; rw [A_eq]; try rfl) t d).trans
    (by unfold Dat.fetched Dat.blockOf xBlk; rw [A_eq]; try rfl)

/-! ## The body's obligation -/

theorem body_at (c : Dev nD) (t : Fin cfg1.N) :
    (iprop((dat m c).Φ t.castSucc ∗ (dat m c).owesAt none t.castSucc
        ∗ (∃ d, owns (c : Thread nD τ) (st1_0 t) fullShare ((dat m c).before 0 t d)) ∗ (∃ d, owns (c : Thread nD τ) (st1_1 t) fullShare ((dat m c).before 1 t d))
        ∗ (∃ d, owns (c : Thread nD τ) (st1_2 t) fullShare ((dat m c).before 2 t d))) : sProp 𝕄)
      ⊢ wp frame (wpE (defs₀ (F := F)) 𝒱₀ (c : Thread nD τ) none) Set.univ (bodyAt1 t) fun _ =>
          iprop((dat m c).Φ t.succ ∗ (dat m c).owesAt none t.succ
            ∗ owns (c : Thread nD τ) (st1_0 t) fullShare ((dat m c).after 0 t) ∗ owns (c : Thread nD τ) (st1_1 t) fullShare ((dat m c).after 1 t)
            ∗ owns (c : Thread nD τ) (st1_2 t) fullShare ((dat m c).after 2 t)) := by
  unfold bodyAt1
  simp only [before_0, before_1]
  rw [show (dat m c).Φ t.succ = (dat m c).Φ t.castSucc from rfl, show (dat m c).owesAt none t.succ = (dat m c).owesAt none t.castSucc from rfl,
    after_0, after_1, after_2]
  iintro ⟨HΦ, Ho, ⟨%d0, H0⟩, ⟨%d1, H1⟩, ⟨%d2, H2⟩⟩
  iapply (body_run c _ _ _ _ _ _ _ (wBlk m c t) (xBlk m c t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_row (t : Fin cfg1.N) : defs₀ (F := F) .tc cfg1.body (cfg1.bodyArgs t (cfg1.slots t)) = bodyAt1 t := by
  rfl

theorem body_obligation (c : Dev nD) : BodyObligation (dat (F := F) m c) (defs₀ (F := F)) 𝒱₀ none Set.univ := fun t => by
  rw [bigSep_W1, bigSep_W1, body_row]
  exact triple_restated (body_at m c t) rfl .rfl fun _ => .rfl

/-! ## What the call leaves -/

/-- The output array after the call. -/
def tcOut (c : Dev nD) : S8192x4096.Idx → Elt F .f32 := (dat m c).arrAt 2 cfg1.N

theorem index_0 : ∀ t : Fin cfg1.N, (cfg1.win 0).index t = ![0, 0] := by decide +kernel
theorem index_1 : ∀ t : Fin cfg1.N, (cfg1.win 1).index t = ![t.val + 1, 0] := by decide +kernel
theorem index_2 : ∀ t : Fin cfg1.N, (cfg1.win 2).index t = ![t.val + 1, 0] := by decide +kernel

theorem wBlk_eq (c : Dev nD) (t : Fin cfg1.N) : wBlk m c t = row (m (aLoc c)) := by
  funext y
  refine congrArg (row (m (aLoc c))) (Shape.idx_ext₂ ?_ ?_)
  · exact Pipeline.Window.rect_emb_val_of_index_zero (cfg1.win 0) t 0 (congrFun (index_0 t) 0) _
  · exact Pipeline.Window.rect_emb_val_of_index_zero (cfg1.win 0) t 1 (congrFun (index_0 t) 1) _

/-- Where element `y` of the block of point `t` sits in the array. -/
def at_ (t : Fin cfg1.N) (y : S256x4096.Idx) : S8192x4096.Idx :=
  fun | 0 => ⟨(t.val + 1) * 256 + (y 0).val, by have h := t.isLt; have h' : cfg1.N = 31 := N_1; have := (y 0).isLt; have e : S256x4096.size 0 = 256 := rfl
                                                show _ < 8192; omega⟩
      | 1 => y 1

theorem zero_block (n k : ℕ) : 0 * n + k = k := by omega

theorem emb_1 (t : Fin cfg1.N) (y : S256x4096.Idx) : (((cfg1.win 1).rect t).emb y : S8192x4096.Idx) = at_ t y :=
  Shape.idx_ext₂ ((Pipeline.Window.rect_emb_val (cfg1.win 1) t y 0).trans (by rw [index_1]; rfl))
    ((Pipeline.Window.rect_emb_val (cfg1.win 1) t y 1).trans (by rw [index_1]; exact zero_block _ _))
theorem emb_2 (t : Fin cfg1.N) (y : S256x4096.Idx) : (((cfg1.win 2).rect t).emb y : S8192x4096.Idx) = at_ t y :=
  Shape.idx_ext₂ ((Pipeline.Window.rect_emb_val (cfg1.win 2) t y 0).trans (by rw [index_2]; rfl))
    ((Pipeline.Window.rect_emb_val (cfg1.win 2) t y 1).trans (by rw [index_2]; exact zero_block _ _))

/-- What the TensorCore leaves, at an element. -/
def tcVal (c : Dev nD) (j : S8192x4096.Idx) : Elt F .f32 := tcLane (thresholds (row (m (aLoc c)))) (xs m c j)

theorem flushed_eq (c : Dev nD) (t : Fin cfg1.N) : (dat m c).flushed 2 t = ((cfg1.win 2).blk t).view.read (Elt F) (tcVal m c) := by
  funext y
  show (dat m c).after 2 t y = tcVal m c (((cfg1.win 2).rect t).emb y)
  rw [after_2, wBlk_eq, emb_2]
  show tcLane (thresholds (row (m (aLoc c)))) (xs m c (((cfg1.win 1).rect t).emb y)) = _
  rw [emb_1]; rfl

theorem tcOut_eq (c : Dev nD) (j : S8192x4096.Idx) (hj : 256 ≤ (j 0).val) : tcOut m c j = tcVal m c j := by
  have h0 : (j 0).val < 8192 := (j 0).isLt
  have hN : cfg1.N = 31 := N_1
  let t : Fin cfg1.N := ⟨(j 0).val / 256 - 1, by omega⟩
  let y : S256x4096.Idx := fun | 0 => ⟨(j 0).val % 256, Nat.mod_lt _ (by decide)⟩ | 1 => j 1
  have e : ((cfg1.win 2).blk t).view.emb y = j :=
    (emb_2 t y).trans (Shape.idx_ext₂ (by show ((j 0).val / 256 - 1 + 1) * 256 + (j 0).val % 256 = _; omega) rfl)
  exact (dat m c).arrAt_apply_of_mem 2 (tcVal m c) (fun t _ => flushed_eq m c t) cfg1.N t j t.isLt (flush1_2 _) (e ▸ View.emb_mem_set _ y)

/-! ## The call's record -/

abbrev v3Loc (c : Dev nD) : Loc nD τ sig := (SparseCore.T c).loc main_v3
abbrev v4Loc (c : Dev nD) : Loc nD τ sig := (SparseCore.T c).loc main_v4

theorem arrays_fold (c : Dev nD) (f : (w : Fin cfg1.W) → Buf (Elt F) ((cfg1.win w).arr.view.loc (c.tc : Thread nD τ))) :
    ((dats m 0 c).arrays f : sProp 𝕄) = iprop((v3Loc c ↦{fullShare} f 0) ∗ (xLoc c ↦{fullShare} f 1) ∗ (v4Loc c ↦{fullShare} f 2)) := by
  rw [Pipeline.arrays_eq (Pipeline.pin (pcfgs (F := F)) adm) (dats m) 0 c arr_whole1 (fun w => by fin_cases w <;> rfl) f]
  exact bigSep_W1 _

theorem scopedRest_none (c : Dev nD) : (Pipeline.scopedRest (Ix := HIx 1) (Name := ℕ) (U := UU) (Lvl := ℕ) (Val := Elt F) (Pipeline.pin (pcfgs (F := F)) adm 0).spec c : sProp 𝕄) = BI.emp :=
  scopedRest1_eq c
theorem no_prefetched (Φ : Fin 0 → sProp 𝕄) : bigSep Finset.univ Φ = BI.emp :=
  bigSep_univ_eq_bigSepL [] (by decide) (by decide) Φ
theorem prefHeld_none (c : Dev nD) (q) (pf) : (Pipeline.prefHeld (Ix := HIx 1) (Name := ℕ) (U := UU) (Lvl := ℕ) (Val := Elt F) (pcfgs (F := F) 0).pre c q pf : sProp 𝕄) = BI.emp :=
  no_prefetched _

/-- What the core owes around the call: nothing, its recorded waits below the SparseCore call's last level. -/
def idle (c : Dev nD) : sProp 𝕄 :=
  iprop(∃ W, ⌜(K (F := F)).WBelow (SparseCore.T c) W (8 * SparseCore.Cfg.Blocks.fst (Q := 1) (N := 1) 1)⌝ ∗ owes (SparseCore.T c) (0 : CellTallies nD τ sig (HIx 1)) W)

theorem idle_in (c : Dev nD) (t) : (idle (F := F) c) ⊢ ((dat m c).owesAt none t : sProp 𝕄) := by
  unfold idle Dat.owesAt Pipeline.owesWithin
  iintro ⟨%W, %hW, HO⟩
  iexists W; isplitr
  · ipureintro; exact fun p hp => Or.inl (hW p hp)
  · iexact HO
theorem idle_out (c : Dev nD) (t) : ((dat m c).owesAt none t : sProp 𝕄) ⊢ idle (F := F) c := by
  unfold idle Dat.owesAt Pipeline.owesWithin
  iintro ⟨%W, %hW, HO⟩
  iexists W; isplitr
  · ipureintro; intro p hp
    rcases hW hp with h | ⟨w, s, h⟩
    · exact h
    · rw [h]; exact Nat.zero_le _
  · iexact HO

def region : Pipeline.RegionSeg (pcfgs (F := F)) adm (dats m) none defs₀ 𝒱₀ (K (F := F)).L (K (F := F)).lev 0 where
  win := winFacts1.to₀
  block_pos := block_pos1
  stage_whole := stage_whole1
  K := PEmpty
  osem k := k.elim
  ho := Pipeline.OwnSemFacts.none _
  hbody c := (body_obligation m c).loose
  hwaits := Pipeline.hwaits_of_owed_zero _ _ _ _ _ _ 0 fun _ _ => rfl
  pre c := iprop(((v3Loc c ↦{fullShare} row (m (aLoc c))) ∗ (xLoc c ↦{fullShare} xs m c) ∗ (v4Loc c ↦{fullShare} m (v4Loc c))) ∗ idle c)
  post c := iprop(((v3Loc c ↦{fullShare} row (m (aLoc c))) ∗ (xLoc c ↦{fullShare} xs m c) ∗ (v4Loc c ↦{fullShare} tcOut m c)) ∗ idle c)
  X _ := iprop(emp)
  Y _ := iprop(emp)
  Z _ := iprop(emp)
  hentry c := by
    rw [Pipeline.ownSems0_none, arrays_fold, prefHeld_none]
    iintro ⟨⟨HA, HO⟩, -, -⟩
    imodintro
    isplitl [HA]; · iexact HA
    isplitr; · iempintro
    isplitl [HO]; · iapply (idle_in m c 0); iexact HO
    isplitr <;> iempintro
  hin c := by
    rw [show (dats m 0 c).Φ 0 = iprop(emp) from rfl]
    iintro ⟨-, -, -⟩; iempintro
  hout c := by
    rw [show (dats m 0 c).Φ (Fin.last _) = iprop(emp) from rfl, Pipeline.ownSems0_none, scopedRest_none]
    iintro -
    isplitr; · iempintro
    isplitr <;> iempintro
  hexit c := by
    rw [arrays_fold]
    rw [show (dats m 0 c).arrAt 0 (Pipeline.pin (pcfgs (F := F)) adm 0).N = row (m (aLoc c)) from (dat m c).arrAt_in 0 rfl _,
      show (dats m 0 c).arrAt 1 (Pipeline.pin (pcfgs (F := F)) adm 0).N = xs m c from (dat m c).arrAt_in 1 rfl _]
    iintro ⟨HA, HO, -, -⟩
    imodintro
    isplitl [HA]; · iexact HA
    iapply (idle_out m c (Fin.last _)); iexact HO

end Cert.Proof
-- ==== Proof.Main.lean ====
module

/- The launch: @main on the TensorCore, and the run of the whole program. -/

public import proofs.«01_k».proof.Proof.Launch
public import proofs.«01_k».proof.Proof.Region

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.ShloMosaic.StableHlo (held wp_hlo_within)
open Idealize.ShloMosaic.Pipeline (ucRefs sub_ucRefs devRef_mem_ucRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## The ghost state the launch starts from -/

abbrev pinned : Fin 1 → Pipeline.Cfg sig Λ₀ := Pipeline.pin (pcfgs (F := F)) adm

def u₀ : UU :=
  (initOf (K (F := F)).hsCells (K (F := F)).hsToks,
    (initOf (Pipeline.cells (nD := nD) (τ := τ) (pinned (F := F)) cellOf_inj) (Pipeline.launchToks (nD := nD) (τ := τ) (pinned (F := F)) cellOf_inj), 1))

/-- The pipeline's ghost state on a device: its cells and its transfers' tokens. -/
def G (d : Dev nD) : sProp 𝕄 := iprop(Pipeline.cellsGhost (pinned (F := F)) EP 0 d ∗ Pipeline.toksInit (pinned (F := F)) EP 0 d)

theorem own_rounds (b : UP) (c : Counters) :
    (BI.own ((embR : Emb (UP × Counters) (MT nD τ sig (HIx 1) (Elt F) ℕ UU ℕ)) (b, c)) : sProp 𝕄)
      ⊢ iprop(BI.own (EP b) ∗ BI.own ((embR : Emb (UP × Counters) (MT nD τ sig (HIx 1) (Elt F) ℕ UU ℕ)) (1, c))) :=
  BI.own_op_elim ((embR : Emb (UP × Counters) (MT nD τ sig (HIx 1) (Elt F) ℕ UU ℕ)).op_of_mem
    (Prod.mk_mem_op (URA.mem_op_one b) (URA.mem_one_op c)))

theorem own_split (a : UH) (b : UP) (c : Counters) : (ownU ((a, (b, c)) : UU) : sProp 𝕄) ⊢ iprop(BI.own (EH a) ∗ BI.own (EP b)) := by
  refine (ownU_pair a (b, c)).trans ?_
  iintro ⟨Ha, Hb⟩
  isplitl [Ha]; · iexact Ha
  ihave H := (own_rounds b c) $$ Hb
  icases H with ⟨Hb, -⟩
  iexact Hb

theorem bigSep_nothing {I : Type} (s : Finset I) : (bigSep s fun _ => iprop(emp)) = (iprop(emp) : sProp 𝕄) := bigSep_emp_const s

theorem no_extra : (bigSep Finset.univ fun thr : Thread nD τ => bigSep Finset.univ fun q : Fin 1 => ((P m).x q thr : sProp 𝕄)) = iprop(emp) := by
  show (bigSep Finset.univ fun _ : Thread nD τ => bigSep Finset.univ fun _ : Fin 1 => (iprop(emp) : sProp 𝕄)) = iprop(emp)
  rw [bigSep_congr fun _ _ => bigSep_nothing _, bigSep_nothing]

theorem ghosts (d : Dev nD) :
    iprop((bigSep Finset.univ fun p : Fin 1 => Pipeline.cellsGhost (pinned (F := F)) EP p d)
      ∗ (bigSep Finset.univ fun p : Fin 1 => (Pipeline.toksInit (pinned (F := F)) EP p d : sProp 𝕄))) = G d := by
  rw [bigSep_univ_of_subsingleton (0 : Fin 1), bigSep_univ_of_subsingleton (0 : Fin 1)]; rfl

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  rw [no_extra, bigSep_congr fun d _ => (ghosts (F := F) d).symm, bigSep_sep']
  unfold u₀
  iintro Hu
  ihave H := (own_split _ _ _) $$ Hu
  icases H with ⟨HH, HP⟩
  imod (Pipeline.fund_ghost (pinned (F := F)) EP cellOf_inj) $$ HP with ⟨Hc, Ht⟩
  imodintro
  isplitl [HH]; · iexact HH
  isplitl [Hc Ht]
  · isplitl [Hc]; · iexact Hc
    iexact Ht
  iempintro

/-! ## The host operations -/

abbrev dref (b : Ref sig .tc) : DevRef τ sig := Proc.devRef .tc b

abbrev opLast : HloOp τ sig (Elt F) := StableHlo.unary main_arg1 main_v0 (extractStridedSlice S1 ![14] · slices_S15_S1_14)
abbrev opTable : HloOp τ sig (Elt F) :=
  StableHlo.binary main_arg1 main_v0 main_v1 (fun a b => concatenate S16 0 [⟨S15, a⟩, ⟨S1, b⟩] concatenates_S15_S1_S16_d0)
abbrev opRow : HloOp τ sig (Elt F) := StableHlo.reshape main_arg1 main_v3 rfl shapeCasts_S15_S1x15
abbrev opZero : HloOp τ sig (Elt F) := StableHlo.nullary main_c (constantI S_ 32 0#32)
abbrev opZero' : HloOp τ sig (Elt F) := StableHlo.nullary main_c_0 (constantI S_ 32 0#32)
abbrev opPut : HloOp τ sig (Elt F) :=
  StableHlo.binaryIndexed main_v4 main_v2 ![main_c, main_c_0] ⟨S_, .i32⟩ main_v5
    (fun x u i => Host.dynamicUpdateSlice x u (fun k => (i k (Shape.Idx.first h_S_)).toInt) updateFits_S8192x4096_S256x4096)

/-! What the device's arrays hold: at the launch, before and after each call, and at the end. -/

def V0 (d : Dev nD) : Valuation τ sig (Elt F) := fun b => m (d, b)
abbrev V2 (d : Dev nD) : Valuation τ sig (Elt F) := (opTable (F := F)).result ((opLast (F := F)).result (V0 m d))
abbrev V3 (d : Dev nD) : Valuation τ sig (Elt F) := Function.update (V2 m d) (dref main_v2) (blk m d)
abbrev V4 (d : Dev nD) : Valuation τ sig (Elt F) := (opRow (F := F)).result (V3 m d)
abbrev V5 (d : Dev nD) : Valuation τ sig (Elt F) := Function.update (V4 m d) (dref main_v4) (tcOut m d)
abbrev V8 (d : Dev nD) : Valuation τ sig (Elt F) := (opPut (F := F)).result ((opZero' (F := F)).result ((opZero (F := F)).result (V5 m d)))

/-- The program's result: the TensorCore's array, the vector subcores' block put on its first rows. -/
def result (d : Dev nD) : S8192x4096.Idx → Elt F .f32 :=
  Host.dynamicUpdateSlice (tcOut m d) (blk m d) (fun _ => (0#32).toInt) updateFits_S8192x4096_S256x4096

theorem V2_of_ne (d : Dev nD) (b : Ref sig .tc) (h0 : b ≠ main_v0) (h1 : b ≠ main_v1) : V2 m d (dref b) = m (d, dref b) :=
  (StableHlo.binary_result_ne (h := h1) ..).trans (StableHlo.unary_result_ne (h := h0) ..)
theorem V2_table (d : Dev nD) : V2 m d (dref main_v1) = tbl m d := by
  unfold V2
  rw [StableHlo.binary_result, StableHlo.unary_result, StableHlo.unary_result_ne (h := show main_arg1 ≠ main_v0 by decide)]; rfl
theorem V4_row (d : Dev nD) : V4 m d (dref main_v3) = row (m (aLoc d)) := by
  unfold V4
  rw [StableHlo.reshape_result]
  rw [show V3 m d (dref main_arg1) = m (aLoc d) from (Function.update_of_ne (by decide) _ _).trans (V2_of_ne m d main_arg1 (by decide) (by decide))]
  rfl
theorem V4_of_ne (d : Dev nD) (b : Ref sig .tc) (h2 : dref b ≠ dref main_v2) (h3 : b ≠ main_v3) : V4 m d (dref b) = V2 m d (dref b) :=
  (StableHlo.reshape_result_ne (h := h3) ..).trans (Function.update_of_ne h2 _ _)
theorem V8_of_ne (d : Dev nD) (b : Ref sig .tc) (h : b ≠ main_c) (h' : b ≠ main_c_0) (h5 : b ≠ main_v5) : V8 m d (dref b) = V5 m d (dref b) :=
  (StableHlo.binaryIndexed_result_ne (h := h5) ..).trans ((StableHlo.nullary_result_ne (h := h') ..).trans (StableHlo.nullary_result_ne (h := h) ..))

theorem V5_x (d : Dev nD) : V5 m d (dref main_arg0) = xs m d :=
  (Function.update_of_ne (by decide) _ _).trans ((V4_of_ne m d main_arg0 (by decide) (by decide)).trans (V2_of_ne m d main_arg0 (by decide) (by decide)))
theorem V5_a (d : Dev nD) : V5 m d (dref main_arg1) = m (aLoc d) :=
  (Function.update_of_ne (by decide) _ _).trans ((V4_of_ne m d main_arg1 (by decide) (by decide)).trans (V2_of_ne m d main_arg1 (by decide) (by decide)))
theorem V5_block (d : Dev nD) : V5 m d (dref main_v2) = blk m d :=
  (Function.update_of_ne (by decide) _ _).trans ((StableHlo.reshape_result_ne (h := show main_v2 ≠ main_v3 by decide) ..).trans (Function.update_self _ _ _))
theorem V5_out (d : Dev nD) : V5 m d (dref main_v4) = tcOut m d := Function.update_self _ _ _

theorem V8_result (d : Dev nD) : V8 m d (dref main_v5) = result m d := by
  unfold V8
  rw [StableHlo.binaryIndexed_result]
  rw [StableHlo.nullary_result_ne (h := show main_v4 ≠ main_c_0 by decide), StableHlo.nullary_result_ne (h := show main_v4 ≠ main_c by decide),
    StableHlo.nullary_result_ne (h := show main_v2 ≠ main_c_0 by decide), StableHlo.nullary_result_ne (h := show main_v2 ≠ main_c by decide), V5_out, V5_block]
  unfold result
  refine congrArg (fun s => Host.dynamicUpdateSlice (tcOut m d) (blk m d) s updateFits_S8192x4096_S256x4096) (funext fun k => ?_)
  match k with
  | 0 =>
    show BitVec.toInt ((opZero' (F := F)).result _ (dref main_c) _) = _
    rw [StableHlo.nullary_result_ne (h := show main_c ≠ main_c_0 by decide), StableHlo.nullary_result]; rfl
  | 1 =>
    show BitVec.toInt ((opZero' (F := F)).result _ (dref main_c_0) _) = _
    rw [StableHlo.nullary_result]; rfl

/-! ## Three arrays out of all the device's -/

def three (a b c : Ref sig .tc) : Finset (DevRef τ sig) := {dref a, dref b, dref c}

theorem three_sub {a b c : Ref sig .tc} (ha : a.isScoped = false) (hb : b.isScoped = false) (hc : c.isScoped = false) :
    three a b c ⊆ ucRefs τ sig := by
  intro x hx
  simp only [three, Finset.mem_insert, Finset.mem_singleton] at hx
  rcases hx with rfl | rfl | rfl
  · exact devRef_mem_ucRefs ha
  · exact devRef_mem_ucRefs hb
  · exact devRef_mem_ucRefs hc

theorem sep_regroup (A B C : sProp 𝕄) : iprop((A ∗ B) ∗ C) = iprop(A ∗ B ∗ C) := equiv_iff.mp ⟨BI.sep_assoc, BI.sep_assoc'⟩

/-- Three arrays of a device and the rest of them, the third array at any contents. -/
theorem held_three (d : Dev nD) {a b c : Ref sig .tc} (ha : a.isScoped = false) (hb : b.isScoped = false) (hc : c.isScoped = false)
    (hab : dref a ≠ dref b) (hac : dref a ≠ dref c) (hbc : dref b ≠ dref c) (W : Valuation τ sig (Elt F)) (f) :
    (held (T d) (ucRefs τ sig) (Function.update W (dref c) f) : sProp 𝕄)
      = iprop((((d, dref a) : Loc nD τ sig) ↦{fullShare} W (dref a)) ∗ (((d, dref b) : Loc nD τ sig) ↦{fullShare} W (dref b))
          ∗ (((d, dref c) : Loc nD τ sig) ↦{fullShare} f) ∗ held (T d) (ucRefs τ sig \ three a b c) W) := by
  rw [StableHlo.held_sub_split (T d) (three_sub ha hb hc),
    StableHlo.held_congr (T d) (S := ucRefs τ sig \ three a b c) (V := Function.update W (dref c) f) (V' := W) fun x hx =>
      Function.update_of_ne (fun e => (Finset.mem_sdiff.mp hx).2 (by rw [e]; simp [three])) _ _]
  unfold held three
  rw [SparseCore.bigSep_insert' (by simp [hab, hac]), SparseCore.bigSep_insert' (by simp [hbc]), bigSep_singleton,
    Function.update_of_ne hac, Function.update_of_ne hbc, Function.update_self]
  exact (sep_regroup _ _ _).trans (congrArg _ (sep_regroup _ _ _))

/-! ## @main on the TensorCore -/

abbrev v5Loc (d : Dev nD) : Loc nD τ sig := (SparseCore.T d).loc main_v5

/-- What @main leaves the claims: the arguments at their launch contents and the result. -/
abbrev FIN (d : Dev nD) : sProp 𝕄 := iprop((xLoc d ↦{fullShare} xs m d) ∗ (aLoc d ↦{fullShare} m (aLoc d)) ∗ (v5Loc d ↦{fullShare} result m d))

theorem st0_eq (d : Dev nD) : (bigSep Finset.univ fun c : Fin ((K (F := F)).nCore 0) => (P m).st 0 d c) = bigSep Finset.univ fun c : Fin 2 => corePts m d (m (oLoc d)) c.val := rfl
theorem dn0_eq (d : Dev nD) : (bigSep Finset.univ fun c : Fin ((K (F := F)).nCore 0) => (P m).dn 0 d c) = bigSep Finset.univ fun c : Fin 2 => corePts m d (blk m d) c.val := rfl

/-- The arrays before the vector subcores' call, its three set apart. -/
theorem before_call (d : Dev nD) : (held (T d) (ucRefs τ sig) (V2 m d) : sProp 𝕄)
    = iprop((xLoc d ↦{fullShare} xs m d) ∗ (wLoc d ↦{fullShare} tbl m d) ∗ (oLoc d ↦{fullShare} m (oLoc d))
        ∗ held (T d) (ucRefs τ sig \ three main_arg0 main_v1 main_v2) (V2 m d)) := by
  have h := held_three d (a := main_arg0) (b := main_v1) (c := main_v2) rfl rfl rfl (by decide) (by decide) (by decide) (V2 m d) (V2 m d (dref main_v2))
  rw [Function.update_eq_self] at h
  rw [h, V2_table, V2_of_ne m d main_arg0 (by decide) (by decide), V2_of_ne m d main_v2 (by decide) (by decide)]
theorem after_call (d : Dev nD) : (held (T d) (ucRefs τ sig) (V3 m d) : sProp 𝕄)
    = iprop((xLoc d ↦{fullShare} xs m d) ∗ (wLoc d ↦{fullShare} tbl m d) ∗ (oLoc d ↦{fullShare} blk m d)
        ∗ held (T d) (ucRefs τ sig \ three main_arg0 main_v1 main_v2) (V2 m d)) := by
  have h := held_three d (a := main_arg0) (b := main_v1) (c := main_v2) rfl rfl rfl (by decide) (by decide) (by decide) (V2 m d) (blk m d)
  unfold V3
  rw [h, V2_table, V2_of_ne m d main_arg0 (by decide) (by decide)]

/-- The arrays before the TensorCore's call, its three set apart. -/
theorem before_region (d : Dev nD) : (held (T d) (ucRefs τ sig) (V4 m d) : sProp 𝕄)
    = iprop((v3Loc d ↦{fullShare} row (m (aLoc d))) ∗ (xLoc d ↦{fullShare} xs m d) ∗ (v4Loc d ↦{fullShare} m (v4Loc d))
        ∗ held (T d) (ucRefs τ sig \ three main_v3 main_arg0 main_v4) (V4 m d)) := by
  have h := held_three d (a := main_v3) (b := main_arg0) (c := main_v4) rfl rfl rfl (by decide) (by decide) (by decide) (V4 m d) (V4 m d (dref main_v4))
  rw [Function.update_eq_self] at h
  rw [h, V4_row, V4_of_ne m d main_arg0 (by decide) (by decide), V2_of_ne m d main_arg0 (by decide) (by decide),
    V4_of_ne m d main_v4 (by decide) (by decide), V2_of_ne m d main_v4 (by decide) (by decide)]
theorem after_region (d : Dev nD) : (held (T d) (ucRefs τ sig) (V5 m d) : sProp 𝕄)
    = iprop((v3Loc d ↦{fullShare} row (m (aLoc d))) ∗ (xLoc d ↦{fullShare} xs m d) ∗ (v4Loc d ↦{fullShare} tcOut m d)
        ∗ held (T d) (ucRefs τ sig \ three main_v3 main_arg0 main_v4) (V4 m d)) := by
  have h := held_three d (a := main_v3) (b := main_arg0) (c := main_v4) rfl rfl rfl (by decide) (by decide) (by decide) (V4 m d) (tcOut m d)
  unfold V5
  rw [h, V4_row, V4_of_ne m d main_arg0 (by decide) (by decide), V2_of_ne m d main_arg0 (by decide) (by decide)]

theorem at_end (d : Dev nD) : (held (T d) (ucRefs τ sig) (V8 m d) : sProp 𝕄)
    = iprop((xLoc d ↦{fullShare} xs m d) ∗ (aLoc d ↦{fullShare} m (aLoc d)) ∗ (v5Loc d ↦{fullShare} result m d)
        ∗ held (T d) (ucRefs τ sig \ three main_arg0 main_arg1 main_v5) (V8 m d)) := by
  have h := held_three d (a := main_arg0) (b := main_arg1) (c := main_v5) rfl rfl rfl (by decide) (by decide) (by decide) (V8 m d) (V8 m d (dref main_v5))
  rw [Function.update_eq_self] at h
  rw [h, V8_result, V8_of_ne m d main_arg0 (by decide) (by decide) (by decide), V8_of_ne m d main_arg1 (by decide) (by decide) (by decide), V5_x, V5_a]

/-- The TensorCore's call as the pipelines' own program has it. -/
abbrev regionCall : Prog (TpuEff nD τ sig (Elt F) (ΛP (F := F)) .tc) PUnit := .op (.customCall (Pipeline.entry 0) ()) fun _ => .ret ⟨⟩

theorem regionCall_lift :
    (Prog.lift (.customCall (SparseCore.inner (Pipeline.entry 0)) ()) : Prog (TpuEff nD τ sig (Elt F) (SparseCore.Sig (ΛP (F := F)) 1) .tc) PUnit)
      = SparseCore.liftProg (pr := (T (nD := nD) (τ := τ) (0 : Dev nD)).2) (regionCall (F := F)) := rfl

theorem region_pre (d : Dev nD) : (region m).pre d
    = iprop(((v3Loc d ↦{fullShare} row (m (aLoc d))) ∗ (xLoc d ↦{fullShare} xs m d) ∗ (v4Loc d ↦{fullShare} m (v4Loc d))) ∗ idle d) := rfl
theorem region_post (d : Dev nD) : (region m).post d
    = iprop(((v3Loc d ↦{fullShare} row (m (aLoc d))) ∗ (xLoc d ↦{fullShare} xs m d) ∗ (v4Loc d ↦{fullShare} tcOut m d)) ∗ idle d) := rfl

/-- The TensorCore's call inside the whole program. -/
theorem region_run [∀ e, Nonempty (Elt F e)] (d : Dev nD) (Q : PUnit → sProp 𝕄) :
    (iprop(((boundary (T d) ∗ (((v3Loc d ↦{fullShare} row (m (aLoc d))) ∗ (xLoc d ↦{fullShare} xs m d) ∗ (v4Loc d ↦{fullShare} tcOut m d)) ∗ idle d)) -∗ Q ⟨⟩)
        ∗ boundary (T d) ∗ (((v3Loc d ↦{fullShare} row (m (aLoc d))) ∗ (xLoc d ↦{fullShare} xs m d) ∗ (v4Loc d ↦{fullShare} m (v4Loc d))) ∗ idle d)
        ∗ levAts (K (F := F)).L (K (F := F)).lev ∗ G d) : sProp 𝕄)
      ⊢ wp frame (wpE ((K (F := F)).defs (D (F := F))) 𝒱 (T d) none) Set.univ
          (Prog.lift (.customCall (SparseCore.inner (Pipeline.entry 0)) ())) Q := by
  refine BI.Entails.trans ?_ ((K (F := F)).wp_liftProg (D (F := F)) 𝒱 (T d) Set.univ none (regionCall (F := F)) Q)
  have h := Pipeline.RegionSeg.wp (pcfgs (F := F)) adm (dats m) none cellOf_inj EP defs₀ 𝒱₀ (K (F := F)).L (K (F := F)).lev (region m) d none (fun _ h => nomatch h)
    (fun _ => .ret ⟨⟩) Q
  unfold G
  refine BI.Entails.trans (?_ : (_ : sProp 𝕄) ⊢ _) h
  rw [region_pre, region_post]
  iintro ⟨Hk, Hb, Hp, Hl, Hc, Ht⟩
  isplitl [Hk]
  · iintro H
    rw [wp_ret]; imodintro
    iapply Hk; iexact H
  isplitl [Hb]; · iexact Hb
  isplitl [Hp]; · iexact Hp
  isplitl [Hl]; · iexact Hl
  isplitl [Hc]; · iexact Hc
  iexact Ht

/-- After the vector subcores' call the TensorCore owes nothing: what it owes, set apart, and put back. -/
theorem tcSt_split (d : Dev nD) : ((K (F := F)).tcSt EH d 1 : sProp 𝕄) ⊢ iprop(idle d ∗ (idle d -∗ (K (F := F)).tcSt EH d 1)) := by
  unfold SparseCore.Cfg.tcSt idle
  rw [SparseCore.Cfg.Otc_end _ d (le_refl 1)]
  iintro ⟨HO, Hr⟩
  isplitl [HO]; · iexact HO
  iintro HO
  isplitl [HO]; · iexact HO
  iexact Hr

/-- @main on device `d`'s TensorCore: the table's two host operations, the vector subcores' call, the row of thresholds, the
    TensorCore's own call, and the vector subcores' block put on the first rows. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) (ucRefs τ sig) (V0 m d) from Pipeline.unscopedBufs_held d (V0 m d)]
  simp only [main, wp_bind, wp_pure]
  iintro ⟨#Hctx, Hst, ⟨Hb, Hh, Hts, -⟩, HG⟩
  -- the table
  iapply (wp_hlo_within 𝒱 (T d) none Set.univ (op := opLast) (sub_ucRefs _ (StableHlo.unary_bufs_sub ..)) (V := V0 m d)) $$ [Hb Hh]
  · isplitl [Hb] <;> iassumption
  iintro ⟨Hb, Hh⟩
  rw [wp_ret]; imodintro
  iapply (wp_hlo_within 𝒱 (T d) none Set.univ (op := opTable) (sub_ucRefs _ (StableHlo.binary_bufs_sub ..)) (V := (opLast (F := F)).result (V0 m d))) $$ [Hb Hh]
  · isplitl [Hb] <;> iassumption
  iintro ⟨Hb, Hh⟩
  rw [wp_ret]; imodintro
  -- the vector subcores' call
  ihave Hh' := (Entails.of_eq (before_call m d)) $$ Hh
  icases Hh' with ⟨Hx, Hw, Ho, Hrest⟩
  ihave Hdeal := (call_deal m d (m (oLoc d)) (blk m d)) $$ [Hx Hw Ho]
  · isplitl [Hx]; · iexact Hx
    isplitl [Hw]; · iexact Hw
    iexact Ho
  icases Hdeal with ⟨Hgive, Hback⟩
  iapply ((K (F := F)).wp_run (D (F := F)) 𝒱 (EH := EH) (P := P m) κ d 0) $$ [Hst Hgive Hback Hrest Hb Hts HG]
  isplitr; · iexact Hctx
  isplitl [Hst]; · iexact Hst
  isplitl [Hgive]; · rw [st0_eq]; iexact Hgive
  iintro ⟨Hst, Hdn⟩
  ihave Hdn' := (Entails.of_eq (dn0_eq m d)) $$ Hdn
  ihave Hall := Hback $$ Hdn'
  icases Hall with ⟨Hx, Hw, Ho⟩
  ihave Hh := (Entails.of_eq (after_call m d).symm) $$ [Hx Hw Ho Hrest]
  · isplitl [Hx]; · iexact Hx
    isplitl [Hw]; · iexact Hw
    isplitl [Ho]; · iexact Ho
    iexact Hrest
  -- the thresholds as a row
  iapply (wp_hlo_within 𝒱 (T d) none Set.univ (op := opRow) (sub_ucRefs _ (StableHlo.reshape_bufs_sub ..)) (V := V3 m d)) $$ [Hb Hh]
  · isplitl [Hb] <;> iassumption
  iintro ⟨Hb, Hh⟩
  rw [wp_ret]; imodintro
  -- the TensorCore's call
  ihave Hh' := (Entails.of_eq (before_region m d)) $$ Hh
  icases Hh' with ⟨H3, Hx, H4, Hrest⟩
  ihave Hst := (Entails.of_eq (show ((K (F := F)).tcSt EH d ((0 : Fin 1).val + 1) : sProp 𝕄) = (K (F := F)).tcSt EH d 1 from rfl)) $$ Hst
  ihave Hst' := (tcSt_split d) $$ Hst
  icases Hst' with ⟨Hidle, Hst⟩
  iapply (region_run m d) $$ [Hb H3 Hx H4 Hrest Hidle Hst HG Hts]
  isplitr [Hb H3 Hx H4 Hidle HG]; rotate_left
  · isplitl [Hb]; · iexact Hb
    isplitl [H3 Hx H4 Hidle]
    · isplitr [Hidle]
      · isplitl [H3]; · iexact H3
        isplitl [Hx]; · iexact Hx
        iexact H4
      · iexact Hidle
    isplitr
    · iapply (SparseCore.Cfg.ctx_levAts κ); iexact Hctx
    · iexact HG
  iintro ⟨Hb, ⟨H3, Hx, H4⟩, Hidle⟩
  ihave Hst' := Hst $$ Hidle
  ihave Hh := (Entails.of_eq (after_region m d).symm) $$ [H3 Hx H4 Hrest]
  · isplitl [H3]; · iexact H3
    isplitl [Hx]; · iexact Hx
    isplitl [H4]; · iexact H4
    iexact Hrest
  -- the block put on the first rows
  iapply (wp_hlo_within 𝒱 (T d) none Set.univ (op := opZero) (sub_ucRefs _ (StableHlo.nullary_bufs_sub ..)) (V := V5 m d)) $$ [Hb Hh]
  · isplitl [Hb] <;> iassumption
  iintro ⟨Hb, Hh⟩
  rw [wp_ret]; imodintro
  iapply (wp_hlo_within 𝒱 (T d) none Set.univ (op := opZero') (sub_ucRefs _ (StableHlo.nullary_bufs_sub ..)) (V := (opZero (F := F)).result (V5 m d))) $$ [Hb Hh]
  · isplitl [Hb] <;> iassumption
  iintro ⟨Hb, Hh⟩
  rw [wp_ret]; imodintro
  iapply (wp_hlo_within 𝒱 (T d) none Set.univ (op := opPut) (sub_ucRefs _ (StableHlo.binaryIndexed_bufs_sub ..)) (V := (opZero' (F := F)).result ((opZero (F := F)).result (V5 m d)))) $$ [Hb Hh]
  · isplitl [Hb] <;> iassumption
  iintro ⟨Hb, Hh⟩
  rw [wp_ret]; imodintro; imodintro
  ihave Hh' := (Entails.of_eq (at_end m d)) $$ Hh
  icases Hh' with ⟨Hx, Ha, H5, -⟩
  isplitl [Hst']; · iexact Hst'
  isplitr [Hb Hts]
  · isplitl [Hx]; · iexact Hx
    isplitl [Ha]; · iexact Ha
    iexact H5
  isplitl [Hb] <;> iassumption

/-! ## The program's run -/

def fq (d : Dev nD) (s' : Phys nD τ sig (Elt F)) : Prop :=
  s'.mem.mem (xLoc d) = m (xLoc d) ∧ s'.mem.mem (aLoc d) = m (aLoc d) ∧ s'.mem.mem (v5Loc d) = result m d

theorem hfin (d : Dev nD) (s' : Phys nD τ sig (Elt F)) : iprop(FIN m d ∗ SI s') ⊢ (⌜fq m d s'⌝ : sProp 𝕄) := by
  iintro ⟨⟨Hx, Ha, H5⟩, HSI⟩
  ihave H := (persistent_entails_right (SI_pointsTo_agree (st := s') (ℓ := xLoc d) (I := Finset.univ) (q := fullShare) (f := xs m d))) $$ [HSI Hx]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (SI_pointsTo_agree (st := s') (ℓ := v5Loc d) (I := Finset.univ) (q := fullShare) (f := result m d)) $$ [HSI H5]
  · isplitl [HSI] <;> iassumption
  icases H with %h3
  ipureintro
  exact ⟨funext fun i => h1 i (Finset.mem_univ i), funext fun i => h2 i (Finset.mem_univ i), funext fun i => h3 i (Finset.mem_univ i)⟩

/-- What every run ends with: the arguments as they were, the result, every semaphore at zero. -/
def QC : PUnit × MemSt nD τ sig (Elt F) → Prop := fun r =>
  (∀ c : Dev nD, r.2.mem (xLoc c) = m (xLoc c) ∧ r.2.mem (aLoc c) = m (aLoc c) ∧ r.2.mem (v5Loc c) = result m c) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main G (FIN m) (u₀ (F := F)) (sep_elim_left.trans (hu₀ m)) (hmain m ρ) (fq m) (hfin m) (QC m) (fun _ h hz => ⟨h, hz⟩)

end Cert.Proof
-- ==== Proof.Count.lean ====
module

/- The two searches and the reference's sum, on extended reals: each is the number of thresholds below the value, less eight. -/

public import proofs.«01_k».proof.Proof.Row
public import proofs.«01_k».proof.Proof.Body
public import Idealize.ShloMosaic.PureOps.Ideal.Laws
public import Idealize.ShloMosaic.Lib.IdealHost

@[expose] public section

noncomputable section

namespace Cert.Proof

open Cert.KernelIdeal Cert.KernelIdeal.Gen
open Idealize.ShloMosaic

/-! ## The constants -/

theorem ofBits_neg_eight : (Scalar.ofBits .f32 0xC1000000#32 : Ideal .f32) = ((-8 : ℝ) : EReal) := by
  show Ideal.ofBits .f32 0xC1000000#32 = _
  simp [Ideal.ofBits, Ideal.ieee, -EReal.coe_mul, -EReal.coe_neg]; norm_num
theorem ofBits_eight : (Scalar.ofBits .f32 0x41000000#32 : Ideal .f32) = ((8 : ℝ) : EReal) := by
  show Ideal.ofBits .f32 0x41000000#32 = _
  simp [Ideal.ofBits, Ideal.ieee, -EReal.coe_mul, -EReal.coe_neg]; norm_num
theorem ofBits_four : (Scalar.ofBits .f32 0x40800000#32 : Ideal .f32) = ((4 : ℝ) : EReal) := by
  show Ideal.ofBits .f32 0x40800000#32 = _
  simp [Ideal.ofBits, Ideal.ieee, -EReal.coe_mul, -EReal.coe_neg]; norm_num
theorem ofBits_two : (Scalar.ofBits .f32 0x40000000#32 : Ideal .f32) = ((2 : ℝ) : EReal) := by
  show Ideal.ofBits .f32 0x40000000#32 = _
  simp [Ideal.ofBits, Ideal.ieee, -EReal.coe_mul, -EReal.coe_neg]; norm_num
theorem ofBits_one : (Scalar.ofBits .f32 0x3F800000#32 : Ideal .f32) = ((1 : ℝ) : EReal) := by
  show Ideal.ofBits .f32 0x3F800000#32 = _
  simp [Ideal.ofBits, Ideal.ieee, -EReal.coe_mul, -EReal.coe_neg]; norm_num
theorem ofBits_zero : (Scalar.ofBits .f32 0x00000000#32 : Ideal .f32) = ((0 : ℝ) : EReal) := by
  show Ideal.ofBits .f32 0x00000000#32 = _
  simp [Ideal.ofBits, Ideal.ieee, -EReal.coe_mul, -EReal.coe_neg]

/-! ## The count -/

/-- Exactly the first `n` of the fifteen thresholds are below `a`. -/
def Below (w : ℕ → Ideal .f32) (a : Ideal .f32) (n : ℕ) : Prop :=
  n ≤ 15 ∧ ∀ i < 15, FloatOps.cmpf .ogt a (w i) = BitVec.ofBool (decide (i < n))

/-- Among ascending thresholds there is such a number. -/
theorem exists_below (w : ℕ → Ideal .f32) (a : Ideal .f32) (h : ∀ i < 14, (w i : EReal) ≤ w (i + 1)) : ∃ n, Below w a n := by
  have hle : ∀ i j, i ≤ j → j < 15 → (w i : EReal) ≤ w j := by
    intro i j hij
    induction j, hij using Nat.le_induction with
    | base => exact fun _ => le_refl _
    | succ j _ ih => exact fun hj => (ih (by omega)).trans (h j (by omega))
  have hc : ∀ i, (FloatOps.cmpf .ogt a (w i) : BitVec 1) = BitVec.ofBool (decide ((w i : EReal) < a)) := fun _ => rfl
  by_cases hall : ∀ i < 15, (w i : EReal) < a
  · exact ⟨15, le_refl _, fun i hi => by rw [hc, decide_eq_true (hall i hi), decide_eq_true hi]⟩
  · have hex : ∃ i, i < 15 ∧ ¬ (w i : EReal) < a := by push Not at hall; obtain ⟨i, hi, hia⟩ := hall; exact ⟨i, hi, not_lt.mpr hia⟩
    classical
    refine ⟨Nat.find hex, (Nat.find_spec hex).1.le, fun i hi => ?_⟩
    rw [hc]
    refine congrArg BitVec.ofBool (decide_eq_decide.mpr ⟨fun hia => ?_, fun hin => ?_⟩)
    · by_contra hn
      exact (Nat.find_spec hex).2 (lt_of_le_of_lt (hle _ _ (not_lt.mp hn) hi) hia)
    · by_contra hia
      exact Nat.find_min hex hin ⟨hi, hia⟩

/-! ## The TensorCore's lane -/

theorem tcLane_eq (w : ℕ → Ideal .f32) (a : Ideal .f32) (n : ℕ) (h : Below w a n) : tcLane w a = (((n : ℝ) - 8 : ℝ) : EReal) := by
  obtain ⟨hn, h⟩ := h
  have h0 := h 0 (by decide); have h1 := h 1 (by decide); have h2 := h 2 (by decide); have h3 := h 3 (by decide); have h4 := h 4 (by decide)
  have h5 := h 5 (by decide); have h6 := h 6 (by decide); have h7 := h 7 (by decide); have h8 := h 8 (by decide); have h9 := h 9 (by decide)
  have h10 := h 10 (by decide); have h11 := h 11 (by decide); have h12 := h 12 (by decide); have h13 := h 13 (by decide); have h14 := h 14 (by decide)
  have hadd : ∀ x y : ℝ, (FloatOps.addf ((x : EReal) : Ideal .f32) ((y : EReal) : Ideal .f32) : Ideal .f32) = ((x + y : ℝ) : EReal) :=
    fun x y => (EReal.coe_add x y).symm
  unfold tcLane
  rw [ofBits_neg_eight, ofBits_four, ofBits_two, ofBits_one, ofBits_zero]
  interval_cases n <;>
    simp [bit4, bit3, bit2, bit1, Scalar.select, h0, h1, h2, h3, h4, h5, h6, h7, h8, h9, h10, h11, h12, h13, h14, hadd, -EReal.coe_add, -EReal.coe_neg, -EReal.coe_sub, -EReal.coe_one, -EReal.coe_zero] <;>
    exact congrArg Real.toEReal (by norm_num)

/-! ## The vector subcores' lane -/

theorem lane_eq (T : Vec Ideal S16 .f32) (w : ℕ → Ideal .f32) (hT : ∀ i < 15, tab T i = w i) (a : Ideal .f32) (n : ℕ) (h : Below w a n) :
    lane T a = (((n : ℝ) - 8 : ℝ) : EReal) := by
  obtain ⟨hn, h⟩ := h
  have hA : ∀ i < 15, above T a i = BitVec.ofBool (decide (i < n)) := fun i hi => by unfold above; rw [hT i hi, h i hi]
  have hp : pos4 T a = BitVec.ofNat 32 n := by
    have h0 := hA 0 (by decide); have h1 := hA 1 (by decide); have h2 := hA 2 (by decide); have h3 := hA 3 (by decide); have h4 := hA 4 (by decide)
    have h5 := hA 5 (by decide); have h6 := hA 6 (by decide); have h7 := hA 7 (by decide); have h8 := hA 8 (by decide); have h9 := hA 9 (by decide)
    have h10 := hA 10 (by decide); have h11 := hA 11 (by decide); have h12 := hA 12 (by decide); have h13 := hA 13 (by decide); have h14 := hA 14 (by decide)
    clear h hA hT
    interval_cases n <;>
      simp [pos4, pos3, pos2, pos1, Scalar.select, h0, h1, h2, h3, h4, h5, h6, h7, h8, h9, h10, h11, h12, h13, h14]
  unfold lane
  rw [hp]
  show (((BitVec.ofNat 32 n - 8#32).toInt : ℝ) : EReal) = _
  have hi : (BitVec.ofNat 32 n - 8#32).toInt = (n : ℤ) - 8 := by interval_cases n <;> decide
  rw [hi]
  push_cast
  rfl

/-! ## The reference's sum -/

/-- The first `k` comparisons' outcomes, added up as floats. -/
def refSum (w : ℕ → Ideal .f32) (a : Ideal .f32) : ℕ → Ideal .f32
  | 0 => Scalar.ofBits .f32 0x00000000#32
  | k + 1 => FloatOps.addf (refSum w a k) (FloatOps.uitofp .f32 (FloatOps.cmpf .ogt a (w k) : BitVec 1))

theorem refSum_eq (w : ℕ → Ideal .f32) (a : Ideal .f32) (n : ℕ) (h : Below w a n) (k : ℕ) (hk : k ≤ 15) :
    refSum w a k = (((min k n : ℕ) : ℝ) : EReal) := by
  induction k with
  | zero => rw [refSum, ofBits_zero]; simp
  | succ k ih =>
    rw [refSum, ih (by omega), h.2 k (by omega)]
    show (((min k n : ℕ) : ℝ) : EReal) + (((BitVec.ofBool (decide (k < n))).toNat : ℝ) : EReal) = _
    rw [← EReal.coe_add, ← Nat.cast_add]
    refine congrArg (fun x : ℕ => ((x : ℝ) : EReal)) ?_
    by_cases hkn : k < n
    · rw [decide_eq_true hkn]; simp; omega
    · rw [decide_eq_false hkn]; simp; omega

/-- What the reference leaves for `a`. -/
def refLane (w : ℕ → Ideal .f32) (a : Ideal .f32) : Ideal .f32 := FloatOps.subf (refSum w a 15) (Scalar.ofBits .f32 0x41000000#32)

theorem refLane_eq (w : ℕ → Ideal .f32) (a : Ideal .f32) (n : ℕ) (h : Below w a n) : refLane w a = (((n : ℝ) - 8 : ℝ) : EReal) := by
  unfold refLane
  rw [refSum_eq w a n h 15 (le_refl _), ofBits_eight, min_eq_right h.1]
  exact (EReal.coe_sub _ _).symm

end Cert.Proof
-- ==== Proof.Value.lean ====
module

/- The kernel's whole result, on extended reals and ascending thresholds, is the reference's, element by element. -/

public import proofs.«01_k».proof.Proof.Main
public import proofs.«01_k».proof.Proof.Count
public import proofs.«01_k».proof.Proof.Gen.Pre_ascending
public import Idealize.ShloMosaic.Lib.ReduceAll

@[expose] public section

noncomputable section

namespace Cert.Proof

open Cert.KernelIdeal Cert.KernelIdeal.Gen
open Idealize.ShloMosaic

/-! ## The thresholds, as each part of the program reads them -/

/-- The index of threshold `n`. -/
def idx15 (n : ℕ) : S15.Idx := fun a => ⟨n % S15.size a, Nat.mod_lt _ (by revert a; decide)⟩

/-- Threshold `n`. -/
def weights (W : S15.Idx → Ideal .f32) (n : ℕ) : Ideal .f32 := W (idx15 n)

theorem tab_table (W : S15.Idx → Ideal .f32) (i : ℕ) (hi : i < 15) : tab (table W) i = weights W i := by
  refine concatenate_pair_apply_left (t := S16) (s₁ := S15) (s₂ := S1) 0 W _ concatenates_S15_S1_S16_d0 (idx16 i) rfl (idx15 i) fun b => ?_
  have hb : b = 0 := Subsingleton.elim _ _
  subst hb
  show i % 15 = i % 16
  omega

theorem thresholds_row (W : S15.Idx → Ideal .f32) : thresholds (row (F := Ideal) W) = weights W :=
  funext fun n => (shapeCast_addUnit_apply ![15] W shapeCasts_S15_S1x15 (idxRow n)).trans
    (congrArg W (funext fun a => Fin.ext (by have ha : a = 0 := Subsingleton.elim _ _; subst ha; rfl)))

/-- A threshold sliced out of the array, made a scalar and spread over the result's shape, read anywhere. -/
theorem spread_apply (W : S15.Idx → Ideal .f32) (i : ℕ) (hi : i < 15) (hs : S15.Slices ![i] S1) (hc : S1.ShapeCasts S_)
    (hb : S_.BroadcastsInDim S8192x4096 ![]) (j : S8192x4096.Idx) :
    broadcastInDim S8192x4096 ![] hb (shapeCast S_ (extractStridedSlice S1 ![i] W hs) hc) j = weights W i := by
  refine (broadcastInDim_apply _ hb _ j (fun a => a.elim0) fun a => a.elim0).trans ?_
  refine (shapeCast_apply _ hc _ (fun a => ⟨0, by revert a; decide⟩ : S1.Idx) (by decide)).trans ?_
  refine extractStridedSlice_apply _ W hs _ (idx15 i) fun a => ?_
  have ha : a = 0 := Subsingleton.elim _ _
  subst ha
  show i % 15 = i + 0
  omega

/-- The precondition says that each threshold is at most the next. -/
theorem ascending_of_pre (X : S8192x4096.Idx → Ideal .f32) (W : S15.Idx → Ideal .f32)
    (h : Cert.Pre_ascending.fn (F := Ideal) X W = fun _ => 1#1) (i : ℕ) (hi : i < 14) : (weights W i : EReal) ≤ weights W (i + 1) := by
  have hu : S_.Idx := fun a => a.elim0
  let k : Cert.Pre_ascending.S14.Idx := fun a => ⟨i, by have ha : a = 0 := Subsingleton.elim _ _; subst ha; exact hi⟩
  haveI : Subsingleton Cert.Pre_ascending.S_.Idx := ⟨fun x y => funext fun a => a.elim0⟩
  have e := Host.reduce_andi_all _ _ _ _ hu (congrFun h hu) k
  have e0 : extractStridedSlice Cert.Pre_ascending.S14 ![0] W Cert.Pre_ascending.Facts.slices_S15_S14_0 k = weights W i :=
    extractStridedSlice_apply _ W _ k (idx15 i) fun a => by
      have ha : a = 0 := Subsingleton.elim _ _
      subst ha
      show i % 15 = 0 + i
      omega
  have e1 : extractStridedSlice Cert.Pre_ascending.S14 ![1] W Cert.Pre_ascending.Facts.slices_S15_S14_1 k = weights W (i + 1) :=
    extractStridedSlice_apply _ W _ k (idx15 (i + 1)) fun a => by
      have ha : a = 0 := Subsingleton.elim _ _
      subst ha
      show (i + 1) % 15 = 1 + i
      omega
  have e' : BitVec.ofBool (decide ((weights W i : EReal) ≤ weights W (i + 1))) = 1#1 := by
    rw [← e0, ← e1]; exact e
  by_contra hn
  rw [decide_eq_false hn] at e'
  exact absurd e' (by decide)

/-! ## The result -/

variable (m : (ℓ : Loc nD τ sig) → Buf (Elt Ideal) ℓ)

theorem result_eq (d : Dev nD) (h : ∀ i < 14, (weights (m (aLoc d)) i : EReal) ≤ weights (m (aLoc d)) (i + 1)) (j : S8192x4096.Idx) :
    result m d j = refLane (weights (m (aLoc d))) (xs m d j) := by
  obtain ⟨n, hn⟩ := exists_below _ (xs m d j) h
  rw [refLane_eq _ _ n hn]
  unfold result
  rw [Host.dynamicUpdateSlice_eq_updateSlice _ _ _ _ ![0, 0] (by decide) (by decide)]
  unfold updateSlice
  by_cases hj : (j 0).val < 256
  · rw [dif_pos (by intro a; revert hj; fin_cases a <;> intro hj; exacts [⟨Nat.zero_le _, by simpa using hj⟩, ⟨Nat.zero_le _, by simpa using (j 1).isLt⟩])]
    refine Eq.trans ?_ (lane_eq (table (m (aLoc d))) _ (tab_table _) (xs m d j) n hn)
    refine congrArg (fun k => lane (table (m (aLoc d))) (xs m d k)) (funext fun a => Fin.ext ?_)
    fin_cases a <;> rfl
  · rw [dif_neg (fun hin => hj (by simpa using (hin 0).2)), tcOut_eq m d j (by omega)]
    unfold tcVal
    rw [thresholds_row]
    exact tcLane_eq _ _ n hn

/-! ## The reference's result, one comparison at a time -/

theorem add_step (W : S15.Idx → Ideal .f32) (X A B : S8192x4096.Idx → Ideal .f32) (j : S8192x4096.Idx) (k : ℕ)
    (hB : B j = weights W k) (hA : A j = refSum (weights W) (X j) k) :
    addf A (uitofp .f32 (cmpf .ogt X B)) j = refSum (weights W) (X j) (k + 1) := by
  show FloatOps.addf (A j) (FloatOps.uitofp .f32 (FloatOps.cmpf .ogt (X j) (B j) : BitVec 1)) = _
  rw [hA, hB]
  rfl

end Cert.Proof
-- ==== Proof.Same.lean ====
module

/- The two printed kernels have one text: their body tables, their threads and so their runs are equal. -/

public import proofs.«01_k».proof.Defs
public import proofs.«01_k».proof.Proof.Gen.Kernel
public import proofs.«01_k».proof.Proof.Gen.KernelIdeal

@[expose] public section

noncomputable section

namespace Cert.Proof

open Idealize.ShloMosaic Idealize.SL.Sem

variable {F : FTy → Type} [FloatOps F]

/-- The kernels' bodies, label by label. -/
theorem bodies_eq : Cert.Kernel.defs₀ (F := F) = Cert.KernelIdeal.defs₀ (F := F) := by
  funext c l a
  change Fin 2 at l
  rcases c with _ | c | ⟨c, s⟩ <;> revert a <;> revert l <;> refine Fin.cases ?_ (Fin.cases ?_ fun i => i.elim0)
  · exact fun _ => rfl
  · exact fun ⟨_, _⟩ => rfl
  all_goals exact fun _ => rfl

theorem sc_eq : Cert.Kernel.sc (F := F) = Cert.KernelIdeal.sc (F := F) := rfl

set_option cleanup.letToHave false in
theorem main_eq : Cert.Kernel.main (F := F) = Cert.KernelIdeal.main (F := F) := by rfl

set_option cleanup.letToHave false in
theorem defs_eq : Cert.Kernel.defs (F := F) = Cert.KernelIdeal.defs (F := F) :=
  congrArg (fun x => (Cert.Kernel.sc (F := F)).defs (Pipeline.defs Cert.Kernel.pcfgs x)) bodies_eq

set_option cleanup.letToHave false in
theorem threads_eq : Cert.Kernel.threads (F := F) = Cert.KernelIdeal.threads (F := F) :=
  congrArg (fun x => (Cert.Kernel.sc (F := F)).threads x) main_eq

set_option cleanup.letToHave false in
theorem run_eq : θ_run (Cert.Kernel.defs (F := F)) (Cert.Kernel.threads (F := F))
    = θ_run (Cert.KernelIdeal.defs (F := F)) (Cert.KernelIdeal.threads (F := F)) :=
  congrArg₂ (fun x y => θ_run x y) defs_eq threads_eq

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_ascending
public import proofs.«01_k».proof.Proof.Value
public import proofs.«01_k».proof.Proof.Same
public import Idealize.ShloMosaic.Adequacy
public import Idealize.ShloMosaic.Init

@[expose] public section

noncomputable section

namespace Cert.Proof

open Idealize.ShloMosaic Idealize.SL.Sem Cert.Kernel

/-- The kernel's run with the values dropped, over any floats. -/
theorem frame_of {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (Cert.KernelIdeal.threads (F := F)) ⟨m, fun _ => 0, ρ⟩ fun r =>
      (∀ c, r.2.mem (xLoc c) = m (xLoc c) ∧ r.2.mem (aLoc c) = m (aLoc c)) ∧ r.2.sem = fun _ => 0 :=
  (θ_run Cert.KernelIdeal.defs _ _).mono (fun _ h => ⟨fun c => ⟨(h.1 c).1, (h.1 c).2.1⟩, h.2⟩) (run_main m ρ)

set_option cleanup.letToHave false in
/-- The kernel's run on bit patterns: the two programs have one text. -/
theorem frame_kernel : Cert.quiescent_Kernel := by
  intro m ρ _
  rw [run_eq]
  exact frame_of (F := Bits) m ρ

/-- The kernel's run on extended reals, from any memory. -/
theorem frame_ideal : Cert.quiescent_KernelIdeal := fun m ρ _ => frame_of (F := Ideal) m ρ

/-- The reference's run, from any memory; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel and the reference end with one result: the kernel's, which is the reference's at every element. -/
theorem algebraic : Cert.algebraic_KernelIdeal_ReferenceIdeal_pre_ascending := by
  intro m ρ m' ρ' hpre hagree
  refine ⟨result m, (θ_run Cert.KernelIdeal.defs _ _).mono (fun _ h c => ⟨(h.1 c).2.2, (h.1 c).1, (h.1 c).2.1⟩) (run_main (F := Ideal) m ρ),
    (θ_run Cert.ReferenceIdeal.defs _ _).mono (fun r h c => ⟨(h c).1.trans ?_, (h c).2⟩) (Cert.ReferenceIdeal.Value.run (F := Ideal) m' ρ')⟩
  rw [(hagree c).1, (hagree c).2]
  refine funext fun j => Eq.trans ?_ (result_eq m c (ascending_of_pre _ _ (hpre c)) j).symm
  refine congrArg (fun s : Ideal .f32 => FloatOps.subf s (Scalar.ofBits .f32 0x41000000#32)) ?_
  iterate 15 refine add_step _ _ _ _ j _ (spread_apply _ _ (by decide) _ _ _ j) ?_
  rfl

/-- Every claim, each about a program whose stated facts hold. -/
theorem claim : Cert.Claim := ⟨Cert.Kernel.Gen.facts, Cert.KernelIdeal.Gen.facts, Cert.ReferenceIdeal.Gen.facts, Cert.Pre_ascending.Gen.facts,
  frame_kernel, frame_ideal, fun m g _ => frame_ideal m g trivial, frame_reference, fun m g _ => frame_reference m g trivial, trivial, algebraic⟩

end Cert.Proof

end
